-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4194304x1 : Shape := ⟨2, ![4194304, 1]⟩
abbrev S_ : Shape := ⟨0, ![]⟩
abbrev S1x75 : Shape := ⟨2, ![1, 75]⟩
abbrev S75 : Shape := ⟨1, ![75]⟩
abbrev S75x4 : Shape := ⟨2, ![75, 4]⟩
abbrev S4 : Shape := ⟨1, ![4]⟩

class Facts : Prop where
  bcast_S_S4194304x1 : S_.BroadcastsInDim S4194304x1 (![] : Fin 0 → Fin S4194304x1.rank)
  bcast_S_S1x75 : S_.BroadcastsInDim S1x75 (![] : Fin 0 → Fin S1x75.rank)
  bcast_S_S75 : S_.BroadcastsInDim S75 (![] : Fin 0 → Fin S75.rank)
  bcast_S_S75x4 : S_.BroadcastsInDim S75x4 (![] : Fin 0 → Fin S75x4.rank)

variable [Facts]

def fn {F : FTy → Type} [FloatOps F] (main_arg0 : FVec F S4194304x1 .f32) (main_arg1 : IVec S_ 32) (main_arg2 : FVec F S1x75 .f32) (main_arg3 : FVec F S75 .f32) (main_arg4 : FVec F S75x4 .f32) (main_arg5 : FVec F S4 .f32) : IVec S4194304x1 1 × IVec S1x75 1 × IVec S75 1 × IVec S75x4 1 :=
  let main_v0 : FVec F S4194304x1 .f32 := Host.absf main_arg0
  let main_cst : FVec F S_ .f32 := constant S_ .f32 0x7F800000#32
  let main_v1 : FVec F S4194304x1 .f32 := broadcastInDim S4194304x1 ![] bcast_S_S4194304x1 main_cst
  let main_v2 : IVec S4194304x1 1 := cmpf .olt main_v0 main_v1
  let main_v3 : FVec F S1x75 .f32 := Host.absf main_arg2
  let main_cst_0 : FVec F S_ .f32 := constant S_ .f32 0x7F800000#32
  let main_v4 : FVec F S1x75 .f32 := broadcastInDim S1x75 ![] bcast_S_S1x75 main_cst_0
  let main_v5 : IVec S1x75 1 := cmpf .olt main_v3 main_v4
  let main_v6 : FVec F S75 .f32 := Host.absf main_arg3
  let main_cst_1 : FVec F S_ .f32 := constant S_ .f32 0x7F800000#32
  let main_v7 : FVec F S75 .f32 := broadcastInDim S75 ![] bcast_S_S75 main_cst_1
  let main_v8 : IVec S75 1 := cmpf .olt main_v6 main_v7
  let main_v9 : FVec F S75x4 .f32 := Host.absf main_arg4
  let main_cst_2 : FVec F S_ .f32 := constant S_ .f32 0x7F800000#32
  let main_v10 : FVec F S75x4 .f32 := broadcastInDim S75x4 ![] bcast_S_S75x4 main_cst_2
  let main_v11 : IVec S75x4 1 := cmpf .olt main_v9 main_v10
  (main_v2, main_v5, main_v8, main_v11)
-- ==== Kernel.lean ====
abbrev S4194304x1 : Shape := ⟨2, ![4194304, 1]⟩
abbrev S_ : Shape := ⟨0, ![]⟩
abbrev S1x75 : Shape := ⟨2, ![1, 75]⟩
abbrev S75 : Shape := ⟨1, ![75]⟩
abbrev S75x4 : Shape := ⟨2, ![75, 4]⟩
abbrev S4 : Shape := ⟨1, ![4]⟩
abbrev S75x1 : Shape := ⟨2, ![75, 1]⟩
abbrev S1x4 : Shape := ⟨2, ![1, 4]⟩
abbrev S76x4 : Shape := ⟨2, ![76, 4]⟩
abbrev S1x128 : Shape := ⟨2, ![1, 128]⟩
abbrev S1 : Shape := ⟨1, ![1]⟩
abbrev S2 : Shape := ⟨1, ![2]⟩
abbrev S8x128 : Shape := ⟨2, ![8, 128]⟩
abbrev S4x76 : Shape := ⟨2, ![4, 76]⟩
abbrev S32768x128 : Shape := ⟨2, ![32768, 128]⟩
abbrev S131072x128 : Shape := ⟨2, ![131072, 128]⟩
abbrev S2048x128 : Shape := ⟨2, ![2048, 128]⟩
abbrev S8192x128 : Shape := ⟨2, ![8192, 128]⟩
abbrev S1x1 : Shape := ⟨2, ![1, 1]⟩
abbrev S2048x128x1 : Shape := ⟨3, ![2048, 128, 1]⟩
abbrev S2048x1x128 : Shape := ⟨3, ![2048, 1, 128]⟩
abbrev S2048x4x128 : Shape := ⟨3, ![2048, 4, 128]⟩
abbrev S32768x4x128 : Shape := ⟨3, ![32768, 4, 128]⟩
abbrev S32768x128x4 : Shape := ⟨3, ![32768, 128, 4]⟩
abbrev S4194304x4 : Shape := ⟨2, ![4194304, 4]⟩

abbrev nBuf : Space → Nat
  | .hbm => 146
  | .vmem => 6
  | .smem => 0
  | _ => 0

abbrev hbmTy0_0 (i : Nat) : BufTy := match i % 128 with
  | 0 => ⟨S4194304x1, .f32⟩
  | 1 => ⟨S_, .i32⟩
  | 2 => ⟨S1x75, .f32⟩
  | 3 => ⟨S75, .f32⟩
  | 4 => ⟨S75x4, .f32⟩
  | 5 => ⟨S4, .f32⟩
  | 6 => ⟨S75, .f32⟩
  | 7 => ⟨S75x4, .bf16⟩
  | 8 => ⟨S75x4, .f32⟩
  | 9 => ⟨S_, .f32⟩
  | 10 => ⟨S75, .f32⟩
  | 11 => ⟨S75, .i1⟩
  | 12 => ⟨S75, .f32⟩
  | 13 => ⟨S_, .f32⟩
  | 14 => ⟨S_, .f32⟩
  | 15 => ⟨S75, .f32⟩
  | 16 => ⟨S75, .f32⟩
  | 17 => ⟨S75, .f32⟩
  | 18 => ⟨S_, .f32⟩
  | 19 => ⟨S_, .f32⟩
  | 20 => ⟨S75, .f32⟩
  | 21 => ⟨S75, .f32⟩
  | 22 => ⟨S_, .f32⟩
  | 23 => ⟨S75, .f32⟩
  | 24 => ⟨S75, .i1⟩
  | 25 => ⟨S_, .f32⟩
  | 26 => ⟨S_, .f32⟩
  | 27 => ⟨S75, .f32⟩
  | 28 => ⟨S75, .f32⟩
  | 29 => ⟨S75, .f32⟩
  | 30 => ⟨S_, .f32⟩
  | 31 => ⟨S75, .f32⟩
  | 32 => ⟨S75, .f32⟩
  | 33 => ⟨S75, .f32⟩
  | 34 => ⟨S75, .f32⟩
  | 35 => ⟨S75x1, .f32⟩
  | 36 => ⟨S75x4, .f32⟩
  | 37 => ⟨S75x4, .f32⟩
  | 38 => ⟨S75, .f32⟩
  | 39 => ⟨S75, .f32⟩
  | 40 => ⟨S75x1, .f32⟩
  | 41 => ⟨S75x4, .f32⟩
  | 42 => ⟨S75x4, .f32⟩
  | 43 => ⟨S_, .f32⟩
  | 44 => ⟨S75, .f32⟩
  | 45 => ⟨S75, .i1⟩
  | 46 => ⟨S75, .f32⟩
  | 47 => ⟨S75, .f32⟩
  | 48 => ⟨S75x1, .f32⟩
  | 49 => ⟨S75x4, .f32⟩
  | 50 => ⟨S75x4, .f32⟩
  | 51 => ⟨S_, .f32⟩
  | 52 => ⟨S4, .f32⟩
  | 53 => ⟨S75, .f32⟩
  | 54 => ⟨S75x1, .f32⟩
  | 55 => ⟨S75x4, .f32⟩
  | 56 => ⟨S75x4, .f32⟩
  | 57 => ⟨S_, .f32⟩
  | 58 => ⟨S4, .f32⟩
  | 59 => ⟨S4, .f32⟩
  | 60 => ⟨S_, .f32⟩
  | 61 => ⟨S75, .f32⟩
  | 62 => ⟨S75, .f32⟩
  | 63 => ⟨S75, .f32⟩
  | 64 => ⟨S75, .f32⟩
  | 65 => ⟨S75x1, .f32⟩
  | 66 => ⟨S75x4, .f32⟩
  | 67 => ⟨S75x4, .f32⟩
  | 68 => ⟨S_, .f32⟩
  | 69 => ⟨S4, .f32⟩
  | 70 => ⟨S4, .f32⟩
  | 71 => ⟨S75, .i32⟩
  | 72 => ⟨S75, .f32⟩
  | 73 => ⟨S75, .i32⟩
  | 74 => ⟨S_, .f32⟩
  | 75 => ⟨S1x4, .f32⟩
  | 76 => ⟨S1x4, .f32⟩
  | 77 => ⟨S_, .i32⟩
  | 78 => ⟨S75, .i32⟩
  | 79 => ⟨S75, .i1⟩
  | 80 => ⟨S_, .i32⟩
  | 81 => ⟨S75, .i32⟩
  | 82 => ⟨S75, .i32⟩
  | 83 => ⟨S75, .i32⟩
  | 84 => ⟨S75x1, .i32⟩
  | 85 => ⟨S75x4, .f32⟩
  | 86 => ⟨S_, .f32⟩
  | 87 => ⟨S_, .f32⟩
  | 88 => ⟨S75x4, .f32⟩
  | 89 => ⟨S76x4, .f32⟩
  | 90 => ⟨S76x4, .f32⟩
  | 91 => ⟨S76x4, .f32⟩
  | 92 => ⟨S1x4, .f32⟩
  | 93 => ⟨S_, .i32⟩
  | 94 => ⟨S75, .i32⟩
  | 95 => ⟨S75, .i1⟩
  | 96 => ⟨S_, .i32⟩
  | 97 => ⟨S75, .i32⟩
  | 98 => ⟨S75, .i32⟩
  | 99 => ⟨S75, .i32⟩
  | 100 => ⟨S75x1, .i32⟩
  | 101 => ⟨S75x4, .f32⟩
  | 102 => ⟨S_, .f32⟩
  | 103 => ⟨S_, .f32⟩
  | 104 => ⟨S75x4, .f32⟩
  | 105 => ⟨S76x4, .f32⟩
  | 106 => ⟨S76x4, .f32⟩
  | 107 => ⟨S76x4, .f32⟩
  | 108 => ⟨S_, .f32⟩
  | 109 => ⟨S1x128, .f32⟩
  | 110 => ⟨S_, .i32⟩
  | 111 => ⟨S75, .i32⟩
  | 112 => ⟨S75, .i1⟩
  | 113 => ⟨S_, .i32⟩
  | 114 => ⟨S75, .i32⟩
  | 115 => ⟨S75, .i32⟩
  | 116 => ⟨S75, .i32⟩
  | 117 => ⟨S75x1, .i32⟩
  | 118 => ⟨S75, .f32⟩
  | 119 => ⟨S_, .i32⟩
  | 120 => ⟨S1, .i32⟩
  | 121 => ⟨S_, .i32⟩
  | 122 => ⟨S1, .i32⟩
  | 123 => ⟨S2, .i32⟩
  | 124 => ⟨S1x128, .f32⟩
  | 125 => ⟨S_, .f32⟩
  | 126 => ⟨S8x128, .f32⟩
  | 127 => ⟨S4x76, .f32⟩
  | _ => ⟨S4194304x1, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S8x128, .f32⟩
  | 6 => ⟨S4x76, .f32⟩
  | 7 => ⟨S_, .i32⟩
  | 8 => ⟨S1, .i32⟩
  | 9 => ⟨S_, .i32⟩
  | 10 => ⟨S1, .i32⟩
  | 11 => ⟨S2, .i32⟩
  | 12 => ⟨S8x128, .f32⟩
  | 13 => ⟨S32768x128, .f32⟩
  | 14 => ⟨S131072x128, .f32⟩
  | 15 => ⟨S32768x4x128, .f32⟩
  | 16 => ⟨S32768x128x4, .f32⟩
  | 17 => ⟨S4194304x4, .f32⟩
  | _ => ⟨S4194304x1, .f32⟩

abbrev hbmTy (i : Nat) : BufTy := match i / 128 with
  | 0 => hbmTy0_0 i
  | 1 => hbmTy0_1 i
  | _ => ⟨S4194304x1, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S8x128, .f32⟩
  | .local _ .vmem, ⟨4, _⟩ => ⟨S8192x128, .f32⟩
  | .local _ .vmem, ⟨5, _⟩ => ⟨S8192x128, .f32⟩
  | _, _ => ⟨S4194304x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_v11 : Ref sig .tc := ⟨.hbm, 29, rfl⟩
abbrev main_cst_5 : Ref sig .tc := ⟨.hbm, 30, rfl⟩
abbrev main_call3_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_call4_v0 : Ref sig .tc := ⟨.hbm, 71, rfl⟩
abbrev main_call4_v1_0 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_c : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call5_call0_cst : Ref sig .tc := ⟨.hbm, 86, rfl⟩
abbrev main_call5_call0_v0 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_13 : Ref sig .tc := ⟨.hbm, 93, rfl⟩
abbrev main_v61 : Ref sig .tc := ⟨.hbm, 94, rfl⟩
abbrev main_v62 : Ref sig .tc := ⟨.hbm, 95, rfl⟩
abbrev main_c_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call6_call0_cst : Ref sig .tc := ⟨.hbm, 102, rfl⟩
abbrev main_call6_call0_v0 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_c_16 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_18 : Ref sig .tc := ⟨.hbm, 119, rfl⟩
abbrev main_v80 : Ref sig .tc := ⟨.hbm, 120, rfl⟩
abbrev main_c_19 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_20 : Ref sig .tc := ⟨.hbm, 125, rfl⟩
abbrev main_v84 : Ref sig .tc := ⟨.hbm, 126, rfl⟩
abbrev main_v85 : Ref sig .tc := ⟨.hbm, 127, rfl⟩
abbrev main_c_21 : Ref sig .tc := ⟨.hbm, 128, rfl⟩
abbrev main_v86 : Ref sig .tc := ⟨.hbm, 129, rfl⟩
abbrev main_c_22 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_23 : Ref sig .tc := ⟨.hbm, 135, rfl⟩
abbrev main_v91 : Ref sig .tc := ⟨.hbm, 136, rfl⟩
abbrev main_c_24 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4194304x1 : Shape := ⟨2, ![4194304, 1]⟩
abbrev S_ : Shape := ⟨0, ![]⟩
abbrev S1x75 : Shape := ⟨2, ![1, 75]⟩
abbrev S75 : Shape := ⟨1, ![75]⟩
abbrev S75x4 : Shape := ⟨2, ![75, 4]⟩
abbrev S4 : Shape := ⟨1, ![4]⟩
abbrev S4194304x75 : Shape := ⟨2, ![4194304, 75]⟩
abbrev S4194304x4 : Shape := ⟨2, ![4194304, 4]⟩
abbrev S1x4 : Shape := ⟨2, ![1, 4]⟩

abbrev nBuf : Space → Nat
  | .hbm => 17
  | .vmem => 0
  | .smem => 0
  | _ => 0

abbrev bufTy : (tb : Table) → Fin (tcTables nBuf tb) → BufTy
  | .hbm, ⟨0, _⟩ => ⟨S4194304x1, .f32⟩
  | .hbm, ⟨1, _⟩ => ⟨S_, .i32⟩
  | .hbm, ⟨2, _⟩ => ⟨S1x75, .f32⟩
  | .hbm, ⟨3, _⟩ => ⟨S75, .f32⟩
  | .hbm, ⟨4, _⟩ => ⟨S75x4, .f32⟩
  | .hbm, ⟨5, _⟩ => ⟨S4, .f32⟩
  | .hbm, ⟨6, _⟩ => ⟨S4194304x75, .f32⟩
  | .hbm, ⟨7, _⟩ => ⟨S1x75, .f32⟩
  | .hbm, ⟨8, _⟩ => ⟨S4194304x75, .f32⟩
  | .hbm, ⟨9, _⟩ => ⟨S4194304x75, .f32⟩
  | .hbm, ⟨10, _⟩ => ⟨S_, .f32⟩
  | .hbm, ⟨11, _⟩ => ⟨S4194304x75, .f32⟩
  | .hbm, ⟨12, _⟩ => ⟨S4194304x75, .f32⟩
  | .hbm, ⟨13, _⟩ => ⟨S4194304x4, .f32⟩
  | .hbm, ⟨14, _⟩ => ⟨S1x4, .f32⟩
  | .hbm, ⟨15, _⟩ => ⟨S4194304x4, .f32⟩
  | .hbm, ⟨16, _⟩ => ⟨S4194304x4, .f32⟩
  | _, _ => ⟨S4194304x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Proof.Tables.lean ====
module

public import proofs.«01_k».proof.Proof.Gen.KernelIdeal.Frame
public import Idealize.ShloMosaic.Lib.StableHlo.ReadAt
public import Idealize.ShloMosaic.PureOps.Ideal.Laws

/-!
# The tables the kernel is launched on

Before the launch the host turns the two layers' weights into two small tables: the sorted breakpoints, padded with
infinities to 128 entries, and the coefficients, a slope and an offset for each of the four outputs and each stretch
between breakpoints. Here each step of that computation is named as a function of the weights, and the buffers the
launch reads are shown to hold those functions of the arguments.
-/

@[expose] public section

set_option maxRecDepth 16384

noncomputable section

namespace Cert.Pwl

open Idealize.ShloMosaic Idealize.ShloMosaic.TcCoe Idealize.SL.Sem Idealize.ShloMosaic.StableHlo
open Cert.KernelIdeal Cert.KernelIdeal.Gen

/-! ## The steps -/

/-- A scalar constant at each of the units. -/
def every (z : BitVec 32) : Vec Ideal S75 .f32 := broadcastInDim S75 ![] bcast_S_S75 (constant (F := Ideal) S_ .f32 z)

/-- A column of per-unit values, repeated for the four outputs. -/
def spread (x : Vec Ideal S75 .f32) : Vec Ideal S75x4 .f32 :=
  broadcastInDim S75x4 ![0, 1] bcast_S75x1_S75x4_0_1 (broadcastInDim S75x1 ![0] bcast_S75_S75x1_0 x)

/-- The units' slopes: the first layer's weights as a row. -/
def slopes (W1 : Vec Ideal S1x75 .f32) : Vec Ideal S75 .f32 := fun i => shapeCast S75 W1 shapeCasts_S1x75_S75 i

/-- The second layer's weights. -/
def outs (W2 : Vec Ideal S75x4 .f32) : Vec Ideal S75x4 .f32 := extf (F := Ideal) .f32 (truncf (F := Ideal) (φ := .f32) .bf16 W2 bitsLt_bf16_f32) bitsLt_bf16_f32

/-- Which slopes are zero. -/
def flat (a : Vec Ideal S75 .f32) : IVec S75 1 := cmpf (F := Ideal) (φ := .f32) .oeq a (every 0#32)

/-- The units' breakpoints. -/
def breaks (a b1 : Vec Ideal S75 .f32) : Vec Ideal S75 .f32 :=
  select (flat a) (broadcastInDim S75 ![] bcast_S_S75 (id (constant (F := Ideal) S_ .f32 0x7F800000#32)))
    (Host.divf (F := Ideal) (φ := .f32) (Host.negf (F := Ideal) (φ := .f32) b1)
      (select (flat a) (broadcastInDim S75 ![] bcast_S_S75 (id (constant (F := Ideal) S_ .f32 0x3F800000#32))) a))

/-- The direction in which each unit switches. -/
def signs (a : Vec Ideal S75 .f32) : Vec Ideal S75 .f32 :=
  select (flat a) (every 0#32)
    (select (cmpf (F := Ideal) (φ := .f32) .ogt a (every 0#32)) (every 0x3F800000#32) (every 0xBF800000#32))

/-- The change of each output's line at each unit's breakpoint, for the slopes (`v = a`) or the offsets (`v = b1`). -/
def jumps (a v : Vec Ideal S75 .f32) (W2 : Vec Ideal S75x4 .f32) : Vec Ideal S75x4 .f32 :=
  mulf (F := Ideal) (φ := .f32) (spread (mulf (F := Ideal) (φ := .f32) (signs a) v)) (outs W2)

/-- One where the slope is negative. -/
def negs (a : Vec Ideal S75 .f32) : Vec Ideal S75 .f32 :=
  uitofp (F := Ideal) .f32 (cmpf (F := Ideal) (φ := .f32) .olt a (every 0#32))

/-- A sum over the units of a per-unit value times the second layer's weights. -/
def total (v : Vec Ideal S75 .f32) (W2 : Vec Ideal S75x4 .f32) : Vec Ideal S4 .f32 :=
  Host.reduceAdd (F := Ideal) (φ := .f32) (mulf (F := Ideal) (φ := .f32) (spread v) (outs W2)) (constant S_ .f32 0#32)
    reducesTo_S75x4_S4_d0 h_S_

/-- The slopes left of every breakpoint. -/
def slope0 (a : Vec Ideal S75 .f32) (W2 : Vec Ideal S75x4 .f32) : Vec Ideal S4 .f32 :=
  total (mulf (F := Ideal) (φ := .f32) a (negs a)) W2

/-- The offsets left of every breakpoint. -/
def offset0 (a b1 : Vec Ideal S75 .f32) (W2 : Vec Ideal S75x4 .f32) (b2 : Vec Ideal S4 .f32) : Vec Ideal S4 .f32 :=
  addf (F := Ideal) (φ := .f32)
    (addf (F := Ideal) (φ := .f32) b2 (total (mulf (F := Ideal) (φ := .f32) b1 (negs a)) W2))
    (total (mulf (F := Ideal) (φ := .f32) (maximumf (F := Ideal) (φ := .f32) b1 (every 0#32)) (uitofp (F := Ideal) .f32 (flat a))) W2)

/-- The order of the breakpoints, as positions. -/
def order (p : Vec Ideal S75 .f32) : IVec S75 32 :=
  (Host.sort2 S75 0 (comparator_f32_i32_d0 (F := Ideal)) p (iotaInDim S75 32 0)).2

/-- A position column as the gathers take it: the number of rows is added to a negative position. -/
def column (o : IVec S75 32) : IVec S75x1 32 :=
  broadcastInDim S75x1 ![0] bcast_S75_S75x1_0
    (select (cmpi .slt o (broadcastInDim S75 ![] bcast_S_S75 (constantI S_ 32 0#32)))
      (addi o (broadcastInDim S75 ![] bcast_S_S75 (constantI S_ 32 75#32))) o)

/-- The changes of line in the order of the breakpoints. -/
def sorted (o : IVec S75 32) (d : Vec Ideal S75x4 .f32) : Vec Ideal S75x4 .f32 :=
  Host.gather gather_S75x4_S75x1_S75x4_1_0_n_n_0_1_14 d (column o)

/-- Running sums along the units. -/
def running (d : Vec Ideal S75x4 .f32) : Vec Ideal S75x4 .f32 :=
  Host.reduceWindowAdd (F := Ideal) (φ := .f32) ![75, 1] ![1, 1] ![74, 0] ![0, 0] d
    (broadcastInDim S_ ![] bcast_S_S_ (constant S_ .f32 0#32)) reduceWindows_S75x4_S75x4_w75s1p74_0_w1s1p0_0 h_S_

/-- A row of zeros on top of a table. -/
def under (x : Vec Ideal S1x4 .f32) (y : Vec Ideal S75x4 .f32) : Vec Ideal S76x4 .f32 :=
  concatenate S76x4 0 [⟨S1x4, x⟩, ⟨S75x4, y⟩] concatenates_S1x4_S75x4_S76x4_d0

/-- The lines of the 76 stretches: a base row plus the running sums of the changes. -/
def lines (base : Vec Ideal S4 .f32) (d : Vec Ideal S75x4 .f32) : Vec Ideal S76x4 .f32 :=
  addf (F := Ideal) (φ := .f32)
    (broadcastInDim S76x4 ![0, 1] bcast_S1x4_S76x4_0_1 (broadcastInDim S1x4 ![1] bcast_S4_S1x4_1 base))
    (under (broadcastInDim S1x4 ![] bcast_S_S1x4 (constant (F := Ideal) S_ .f32 0#32)) (running d))

/-- A pair of start positions. -/
def corner (x y : IVec S1 32) : IVec S2 32 := concatenate S2 0 [⟨S1, x⟩, ⟨S1, y⟩] concatenates_S1_S1_S2_d0

/-- One start position. -/
def start (z : BitVec 32) : IVec S1 32 := broadcastInDim S1 ![] bcast_S_S1 (constantI S_ 32 z)

/-- The sorted breakpoints, padded with infinities. -/
def padded (p : Vec Ideal S75 .f32) : Vec Ideal S1x128 .f32 :=
  Host.scatter scatter_S1x128_S2_S75_0_0_01_0 (fun _ b => b)
    (broadcastInDim S1x128 ![] bcast_S_S1x128 (constant (F := Ideal) S_ .f32 0x7F800000#32)) (corner (start 0#32) (start 0#32))
    (Host.gather gather_S75_S75x1_S75_n_0_n_n_0_1_1 p (column (order p)))

/-- Four rows of lines written into the coefficient table from row `z` on. -/
def written (t : Vec Ideal S8x128 .f32) (z : BitVec 32) (l : Vec Ideal S76x4 .f32) : Vec Ideal S8x128 .f32 :=
  Host.scatter scatter_S8x128_S2_S4x76_01_n_01_0 (fun _ b => b) t (corner (start z) (start 0#32))
    (transpose S4x76 [1, 0] l transposes_S76x4_S4x76_1_0)

/-- The coefficient table. -/
def coefs (a b1 : Vec Ideal S75 .f32) (W2 : Vec Ideal S75x4 .f32) (b2 : Vec Ideal S4 .f32) : Vec Ideal S8x128 .f32 :=
  written (written (broadcastInDim S8x128 ![] bcast_S_S8x128 (constant (F := Ideal) S_ .f32 0#32)) 0#32
      (lines (slope0 a W2) (sorted (order (breaks a b1)) (jumps a a W2)))) 4#32
    (lines (offset0 a b1 W2 b2) (sorted (order (breaks a b1)) (jumps a b1 W2)))

/-! ## The buffers -/

variable (m : (ℓ : Loc nD τ sig) → Buf (Elt Ideal) ℓ) (c : Dev nD)

/-- The padded breakpoints are what the launch reads as its second operand. -/
theorem padded_read : V m c main_v83 = padded (breaks (slopes (m (c, Proc.devRef .tc main_arg2))) (m (c, Proc.devRef .tc main_arg3))) := by
  unfold V V0
  after_reads_simp
  rw [show ∀ (x y : IVec S1 32) h, concatenate S2 0 [⟨S1, x⟩, ⟨S1, y⟩] h = corner x y from fun _ _ _ => rfl]
  after_reads_simp
  rfl

/-- The coefficient table is what the launch reads as its third operand. -/
theorem coefs_read : V m c main_v94 = coefs (slopes (m (c, Proc.devRef .tc main_arg2))) (m (c, Proc.devRef .tc main_arg3))
    (m (c, Proc.devRef .tc main_arg4)) (m (c, Proc.devRef .tc main_arg5)) := by
  unfold V V0
  after_reads_simp
  simp only [show ∀ (x y : IVec S1 32) h, concatenate S2 0 [⟨S1, x⟩, ⟨S1, y⟩] h = corner x y from fun _ _ _ => rfl,
    show ∀ (x : Vec Ideal S1x4 .f32) (y : Vec Ideal S75x4 .f32) h, concatenate S76x4 0 [⟨S1x4, x⟩, ⟨S75x4, y⟩] h = under x y
      from fun _ _ _ => rfl]
  after_reads_simp
  rfl

end Cert.Pwl
-- ==== Proof.Search.lean ====
module

public import Mathlib.Data.EReal.Basic
public import Mathlib.Tactic.Linarith
public import Mathlib.Tactic.Ring
public import Mathlib.Tactic.NormNum
public import Mathlib.Tactic.FieldSimp
public import Mathlib.Tactic.Abel

/-!
# The seven-step search in a sorted table

The kernel looks up, for each input `x`, how many entries of a sorted table of 128 breakpoints lie
strictly below `x`. It does so by seven halving steps of width 64, 32, 16, 8, 4, 2, 1. Here the steps
are written on natural numbers and the count they reach is characterised.
-/

@[expose] public section

namespace Cert.Pwl

/-- One step of the search: from `p` known entries below `x`, look at entry `p + s - 1` and move up by `s`
when it lies below `x`. -/
noncomputable def step (T : ℕ → EReal) (x : EReal) (s p : ℕ) : ℕ :=
  if T (p + (s - 1)) < x then p + s else p

/-- The position after the first five steps (widths 64, 32, 16, 8, 4). -/
noncomputable def pos5 (T : ℕ → EReal) (x : EReal) : ℕ :=
  step T x 4 (step T x 8 (step T x 16 (step T x 32 (step T x 64 0))))

/-- The position after all seven steps. -/
noncomputable def pos7 (T : ℕ → EReal) (x : EReal) : ℕ :=
  step T x 1 (step T x 2 (pos5 T x))

/-- The position `p` is right up to a window of `w` entries: everything before `p` lies below `x`, and nothing
from `p + w - 1` on does. -/
def Within (T : ℕ → EReal) (x : EReal) (w p : ℕ) : Prop :=
  (∀ i, i < p → T i < x) ∧ ∀ i, p + w ≤ i + 1 → ¬ T i < x

/-- A step of width `s` halves the window of `2 s` entries in which the position is known to lie. -/
theorem Within.step {T : ℕ → EReal} (hT : Monotone T) {x : EReal} {s p : ℕ} (hs : 0 < s)
    (h : Within T x (2 * s) p) : Within T x s (step T x s p) := by
  unfold Pwl.step
  split
  · next hlt =>
    refine ⟨fun i hi => ?_, fun i hi => h.2 i (by omega)⟩
    exact lt_of_le_of_lt (hT (by omega)) hlt
  · next hlt =>
    refine ⟨h.1, fun i hi hi' => hlt (lt_of_le_of_lt (hT (by omega)) hi')⟩

/-- A step never moves past its own width. -/
theorem step_le (T : ℕ → EReal) (x : EReal) (s p : ℕ) : step T x s p ≤ p + s := by
  unfold step; split <;> omega

/-- In a sorted table whose entries from 127 on are not below `x`, the search finds exactly the number of
entries below `x`. -/
theorem lt_pos7 {T : ℕ → EReal} (hT : Monotone T) {x : EReal} (h : ¬ T 127 < x) (i : ℕ) :
    T i < x ↔ i < pos7 T x := by
  have h0 : Within T x (2 * 64) 0 :=
    ⟨fun i hi => absurd hi (Nat.not_lt_zero i), fun i hi hlt => h (lt_of_le_of_lt (hT (by omega)) hlt)⟩
  have h1 : Within T x (2 * 32) _ := h0.step hT (by norm_num)
  have h2 : Within T x (2 * 16) _ := h1.step hT (by norm_num)
  have h3 : Within T x (2 * 8) _ := h2.step hT (by norm_num)
  have h4 : Within T x (2 * 4) _ := h3.step hT (by norm_num)
  have h5 : Within T x (2 * 2) _ := h4.step hT (by norm_num)
  have h6 : Within T x (2 * 1) _ := h5.step hT (by norm_num)
  have h7 : Within T x 1 (pos7 T x) := h6.step hT (by norm_num)
  exact ⟨fun hlt => not_le.mp fun hle => h7.2 i (by omega) hlt, h7.1 i⟩

/-- After five steps the position is a multiple of four, at most 124. -/
theorem pos5_le (T : ℕ → EReal) (x : EReal) : pos5 T x ≤ 124 := by
  have h1 := step_le T x 64 0
  have h2 := step_le T x 32 (step T x 64 0)
  have h3 := step_le T x 16 (step T x 32 (step T x 64 0))
  have h4 := step_le T x 8 (step T x 16 (step T x 32 (step T x 64 0)))
  have h5 := step_le T x 4 (step T x 8 (step T x 16 (step T x 32 (step T x 64 0))))
  unfold pos5
  omega

end Cert.Pwl
-- ==== Proof.Body.lean ====
module

public import proofs.«01_k».proof.Proof.Gen.KernelIdeal.Frame
public import Idealize.ShloMosaic.Lib.Pipeline.ValueKit
public import proofs.«01_k».proof.Proof.Search

/-!
# What the kernel's body searches for

At every element of its block the body runs the seven-step search of `Search` in the row of breakpoints. The
comparisons and the position words are read here at one element.
-/

@[expose] public section

set_option maxRecDepth 16384

noncomputable section

namespace Cert.Pwl

open Idealize.ShloMosaic hiding ix0 ix1 ix2 ix3
open Idealize.ShloMosaic.ValueIdx
open Cert.KernelIdeal Cert.KernelIdeal.Gen

/-- The breakpoint row as a table on the natural numbers, `⊤` past its end. -/
def tab (x1 : Vec Ideal S1x128 .f32) (i : ℕ) : EReal :=
  if h : i < 128 then x1 (ix2 (0 : Fin 1) (⟨i, h⟩ : Fin 128)) else ⊤

/-- Reading one entry of the breakpoint row. -/
theorem extract_entry (x1 : Vec Ideal S1x128 .f32) (k : ℕ) (hk : k < 128) (hb) :
    extractAt ![0, 0] (View.ld x1 (Rect.unit (s := S1x128) ![0, k] S1x1.size hb)) inpos_S1x1_p0_0 = tab x1 k := by
  unfold tab
  rw [dif_pos hk]
  show x1 _ = x1 _
  congr 1
  funext d
  match d with
  | ⟨0, _⟩ => rfl
  | ⟨1, _⟩ => exact Fin.ext (by show k + 1 * 0 = k; omega)

/-- The one-bit answer to a question. -/
def bit (p : Prop) [Decidable p] : BitVec 1 := BitVec.ofBool (decide p)

/-- The comparison "below" on extended reals, as a bit. -/
theorem cmp_lt (a b : EReal) : (FloatOps.cmpf (F := Ideal) (φ := .f32) .olt a b : BitVec 1) = bit (a < b) := rfl

theorem select_bit {α : Type} (p : Prop) [Decidable p] (a b : α) :
    Scalar.select (bit p) a b = if p then a else b := by
  by_cases h : p
  · simp [bit, h, select_one]
  · simp [bit, h, select_zero]

theorem bit_congr {p q : Prop} [Decidable p] [Decidable q] (h : p ↔ q) : bit p = bit q := by
  unfold bit; rw [decide_eq_decide.mpr h]

section
variable (x0 : Vec Ideal S2048x128 .f32) (x1 : Vec Ideal S1x128 .f32) (x2 : Vec Ideal S8x128 .f32)
  (r : Fin 2048) (l : Fin 128)

/-- The block of inputs is read whole. -/
theorem input_apply : k0_pay33 x0 x1 x2 (ix2 r l) = x0 (ix2 r l) := by
  unfold k0_pay33 k0_pay2
  pointwise

/-- First comparison: entry 63. -/
theorem cond1 : k0_pay35 x0 x1 x2 (ix2 r l) = bit (tab x1 63 < x0 (ix2 r l)) := by
  have h := input_apply x0 x1 x2 r l
  unfold k0_pay33 at h
  unfold k0_pay35 k0_pay4
  simp only [cmpf_apply, broadcast_apply, extract_entry x1 63 (by norm_num)]
  rw [h, cmp_lt]

/-- Second comparison: the middle of the half that the first one chose. -/
theorem cond2 : k0_pay36 x0 x1 x2 (ix2 r l)
    = bit (tab x1 (step (tab x1) (x0 (ix2 r l)) 64 0 + 31) < x0 (ix2 r l)) := by
  have h := input_apply x0 x1 x2 r l
  have h1 := cond1 x0 x1 x2 r l
  unfold k0_pay33 at h
  unfold k0_pay35 at h1
  unfold k0_pay36 k0_pay5
  simp only [cmpf_apply, select_apply, broadcast_apply, extract_entry x1 _ (show 31 < 128 by norm_num),
    extract_entry x1 _ (show 95 < 128 by norm_num)]
  rw [h, h1, select_bit, cmp_lt]
  unfold step
  by_cases c1 : tab x1 63 < x0 (ix2 r l) <;> simp only [c1, if_true, if_false] <;> rfl

/-- Third comparison. -/
theorem cond3 : k0_pay37 x0 x1 x2 (ix2 r l)
    = bit (tab x1 (step (tab x1) (x0 (ix2 r l)) 32 (step (tab x1) (x0 (ix2 r l)) 64 0) + 15) < x0 (ix2 r l)) := by
  have h := input_apply x0 x1 x2 r l
  have h1 := cond1 x0 x1 x2 r l
  have h2 := cond2 x0 x1 x2 r l
  unfold k0_pay33 at h
  unfold k0_pay35 at h1
  unfold k0_pay36 at h2
  unfold k0_pay37 k0_pay6
  simp only [cmpf_apply, select_apply, broadcast_apply, extract_entry x1 _ (show 15 < 128 by norm_num),
    extract_entry x1 _ (show 47 < 128 by norm_num), extract_entry x1 _ (show 79 < 128 by norm_num),
    extract_entry x1 _ (show 111 < 128 by norm_num)]
  rw [h, h1, h2]
  simp only [select_bit, cmp_lt]
  clear h h1 h2
  generalize x0 (ix2 r l) = x
  unfold step
  by_cases c1 : tab x1 63 < x <;> simp only [c1, if_true, if_false, Nat.zero_add] <;> norm_num
  · by_cases c2 : tab x1 95 < x <;> simp only [c2, if_true, if_false]
  · by_cases c2 : tab x1 31 < x <;> simp only [c2, if_true, if_false]

/-- Fourth comparison. -/
theorem cond4 : k0_pay38 x0 x1 x2 (ix2 r l)
    = bit (tab x1 (step (tab x1) (x0 (ix2 r l)) 16 (step (tab x1) (x0 (ix2 r l)) 32
        (step (tab x1) (x0 (ix2 r l)) 64 0)) + 7) < x0 (ix2 r l)) := by
  have h := input_apply x0 x1 x2 r l
  have h1 := cond1 x0 x1 x2 r l
  have h2 := cond2 x0 x1 x2 r l
  have h3 := cond3 x0 x1 x2 r l
  unfold k0_pay38 k0_pay8 k0_pay7
  simp only [cmpf_apply, select_apply, broadcast_apply, extract_entry x1 _ (show 7 < 128 by norm_num),
    extract_entry x1 _ (show 23 < 128 by norm_num), extract_entry x1 _ (show 39 < 128 by norm_num),
    extract_entry x1 _ (show 55 < 128 by norm_num), extract_entry x1 _ (show 71 < 128 by norm_num),
    extract_entry x1 _ (show 87 < 128 by norm_num), extract_entry x1 _ (show 103 < 128 by norm_num),
    extract_entry x1 _ (show 119 < 128 by norm_num)]
  rw [h, h1, h2, h3]
  simp only [select_bit, cmp_lt]
  clear h h1 h2 h3
  generalize x0 (ix2 r l) = x
  generalize tab x1 = T
  unfold step
  by_cases c1 : T 63 < x <;> simp only [c1, if_true, if_false, Nat.zero_add] <;> norm_num
  · by_cases c2 : T 95 < x <;> simp only [c2, if_true, if_false] <;> norm_num
    · by_cases c3 : T 111 < x <;> simp only [c3, if_true, if_false]
    · by_cases c3 : T 79 < x <;> simp only [c3, if_true, if_false]
  · by_cases c2 : T 31 < x <;> simp only [c2, if_true, if_false] <;> norm_num
    · by_cases c3 : T 47 < x <;> simp only [c3, if_true, if_false]
    · by_cases c3 : T 15 < x <;> simp only [c3, if_true, if_false]

/-- The position word after five comparisons. -/
theorem word5 : k0_pay44 x0 x1 x2 (ix2 r l) = BitVec.ofNat 32 (pos5 (tab x1) (x0 (ix2 r l))) := by
  have h := input_apply x0 x1 x2 r l
  have h1 := cond1 x0 x1 x2 r l
  have h2 := cond2 x0 x1 x2 r l
  have h3 := cond3 x0 x1 x2 r l
  have h4 := cond4 x0 x1 x2 r l
  unfold k0_pay44 k0_pay24 k0_pay43 k0_pay42 k0_pay41 k0_pay40 k0_pay39 k0_pay23 k0_pay22 k0_pay21 k0_pay20 k0_pay19
    k0_pay18 k0_pay17 k0_pay16 k0_pay15 k0_pay14 k0_pay13 k0_pay12 k0_pay11 k0_pay10 k0_pay9
  simp only [addi_apply, cmpf_apply, select_apply, broadcast_apply, extract_entry x1 _ (show 3 < 128 by norm_num),
    extract_entry x1 _ (show 11 < 128 by norm_num), extract_entry x1 _ (show 19 < 128 by norm_num),
    extract_entry x1 _ (show 27 < 128 by norm_num), extract_entry x1 _ (show 35 < 128 by norm_num),
    extract_entry x1 _ (show 43 < 128 by norm_num), extract_entry x1 _ (show 51 < 128 by norm_num),
    extract_entry x1 _ (show 59 < 128 by norm_num), extract_entry x1 _ (show 67 < 128 by norm_num),
    extract_entry x1 _ (show 75 < 128 by norm_num), extract_entry x1 _ (show 83 < 128 by norm_num),
    extract_entry x1 _ (show 91 < 128 by norm_num), extract_entry x1 _ (show 99 < 128 by norm_num),
    extract_entry x1 _ (show 107 < 128 by norm_num), extract_entry x1 _ (show 115 < 128 by norm_num),
    extract_entry x1 _ (show 123 < 128 by norm_num)]
  rw [h, h1, h2, h3, h4]
  simp only [select_bit, cmp_lt]
  clear h h1 h2 h3 h4
  generalize x0 (ix2 r l) = x
  generalize tab x1 = T
  unfold pos5 step
  by_cases c1 : T 63 < x <;> simp only [c1, if_true, if_false, Nat.zero_add, Nat.reduceAdd, Nat.reduceSub]
  · by_cases c2 : T 95 < x <;> simp only [c2, if_true, if_false, Nat.zero_add, Nat.reduceAdd, Nat.reduceSub]
    · by_cases c3 : T 111 < x <;> simp only [c3, if_true, if_false, Nat.zero_add, Nat.reduceAdd, Nat.reduceSub]
      · by_cases c4 : T 119 < x <;> simp only [c4, if_true, if_false, Nat.zero_add, Nat.reduceAdd, Nat.reduceSub]
        · by_cases c5 : T 123 < x <;> simp only [c5, if_true, if_false] <;> rfl
        · by_cases c5 : T 115 < x <;> simp only [c5, if_true, if_false] <;> rfl
      · by_cases c4 : T 103 < x <;> simp only [c4, if_true, if_false, Nat.zero_add, Nat.reduceAdd, Nat.reduceSub]
        · by_cases c5 : T 107 < x <;> simp only [c5, if_true, if_false] <;> rfl
        · by_cases c5 : T 99 < x <;> simp only [c5, if_true, if_false] <;> rfl
    · by_cases c3 : T 79 < x <;> simp only [c3, if_true, if_false, Nat.zero_add, Nat.reduceAdd, Nat.reduceSub]
      · by_cases c4 : T 87 < x <;> simp only [c4, if_true, if_false, Nat.zero_add, Nat.reduceAdd, Nat.reduceSub]
        · by_cases c5 : T 91 < x <;> simp only [c5, if_true, if_false] <;> rfl
        · by_cases c5 : T 83 < x <;> simp only [c5, if_true, if_false] <;> rfl
      · by_cases c4 : T 71 < x <;> simp only [c4, if_true, if_false, Nat.zero_add, Nat.reduceAdd, Nat.reduceSub]
        · by_cases c5 : T 75 < x <;> simp only [c5, if_true, if_false] <;> rfl
        · by_cases c5 : T 67 < x <;> simp only [c5, if_true, if_false] <;> rfl
  · by_cases c2 : T 31 < x <;> simp only [c2, if_true, if_false, Nat.zero_add, Nat.reduceAdd, Nat.reduceSub]
    · by_cases c3 : T 47 < x <;> simp only [c3, if_true, if_false, Nat.zero_add, Nat.reduceAdd, Nat.reduceSub]
      · by_cases c4 : T 55 < x <;> simp only [c4, if_true, if_false, Nat.zero_add, Nat.reduceAdd, Nat.reduceSub]
        · by_cases c5 : T 59 < x <;> simp only [c5, if_true, if_false] <;> rfl
        · by_cases c5 : T 51 < x <;> simp only [c5, if_true, if_false] <;> rfl
      · by_cases c4 : T 39 < x <;> simp only [c4, if_true, if_false, Nat.zero_add, Nat.reduceAdd, Nat.reduceSub]
        · by_cases c5 : T 43 < x <;> simp only [c5, if_true, if_false] <;> rfl
        · by_cases c5 : T 35 < x <;> simp only [c5, if_true, if_false] <;> rfl
    · by_cases c3 : T 15 < x <;> simp only [c3, if_true, if_false, Nat.zero_add, Nat.reduceAdd, Nat.reduceSub]
      · by_cases c4 : T 23 < x <;> simp only [c4, if_true, if_false, Nat.zero_add, Nat.reduceAdd, Nat.reduceSub]
        · by_cases c5 : T 27 < x <;> simp only [c5, if_true, if_false] <;> rfl
        · by_cases c5 : T 19 < x <;> simp only [c5, if_true, if_false] <;> rfl
      · by_cases c4 : T 7 < x <;> simp only [c4, if_true, if_false, Nat.zero_add, Nat.reduceAdd, Nat.reduceSub]
        · by_cases c5 : T 11 < x <;> simp only [c5, if_true, if_false] <;> rfl
        · by_cases c5 : T 3 < x <;> simp only [c5, if_true, if_false] <;> rfl

end

end Cert.Pwl
-- ==== Proof.Pieces.lean ====
module

public import Mathlib.Data.EReal.Operations
public import Mathlib.Data.EReal.Inv
public import Mathlib.Algebra.BigOperators.Ring.Finset
public import Mathlib.Tactic.Linarith
public import Mathlib.Tactic.Ring
public import Mathlib.Tactic.NormNum
public import Mathlib.Tactic.FieldSimp
public import Mathlib.Tactic.Abel

/-!
# A sum of ramps as a table of straight pieces

A hidden unit with slope `a` and offset `c` contributes `max (x a + c) 0 · w`. It switches on (for `a > 0`) or
off (for `a < 0`) at its breakpoint `-c / a`; a unit with `a = 0` is constant. So the sum over the units is, for
`x` between two neighbouring breakpoints, one straight line, whose slope and offset are a base value plus the
sum, over the breakpoints below `x`, of what each of them changes.
-/

@[expose] public section

namespace Cert.Pwl

open scoped BigOperators

/-- The breakpoint of a unit; a constant unit has none, which is written `⊤`. -/
noncomputable def brk (a c : ℝ) : EReal := if a = 0 then ⊤ else ((-c / a : ℝ) : EReal)

/-- The direction in which a unit switches at its breakpoint. -/
noncomputable def sgn (a : ℝ) : ℝ := if a = 0 then 0 else if 0 < a then 1 else -1

/-- One where the slope is negative. -/
noncomputable def neg (a : ℝ) : ℝ := if a < 0 then 1 else 0

/-- One where the slope is zero. -/
noncomputable def isz (a : ℝ) : ℝ := if a = 0 then 1 else 0

/-- One unit: the base line plus, when the breakpoint lies below `x`, the change of line there, is the ramp. -/
theorem ramp (a c x : ℝ) :
    (a * neg a) * x + c * neg a + max c 0 * isz a
      + (if brk a c < (x : EReal) then sgn a * a * x + sgn a * c else 0) = max (x * a + c) 0 := by
  unfold brk sgn neg isz
  rcases lt_trichotomy a 0 with h | h | h
  · have h0 : a ≠ 0 := h.ne
    simp only [h0, if_false, h, if_true, not_lt.mpr h.le, EReal.coe_lt_coe_iff]
    have key : -c / a < x ↔ x * a + c < 0 := by
      rw [div_lt_iff_of_neg h]; constructor <;> intro <;> linarith
    by_cases hb : -c / a < x
    · rw [if_pos hb, max_eq_right (key.mp hb).le]; ring
    · rw [if_neg hb, max_eq_left (not_lt.mp (mt key.mpr hb))]; ring
  · subst h; simp
  · have h0 : a ≠ 0 := h.ne'
    simp only [h0, if_false, h, if_true, not_lt.mpr h.le, EReal.coe_lt_coe_iff]
    have key : -c / a < x ↔ 0 < x * a + c := by
      rw [div_lt_iff₀ h]; constructor <;> intro <;> linarith
    by_cases hb : -c / a < x
    · rw [if_pos hb, max_eq_left (key.mp hb).le]; ring
    · rw [if_neg hb, max_eq_right (not_lt.mp (mt key.mpr hb))]; ring

variable {n : ℕ}

/-- A prefix sum along an ordering that lists the breakpoints below `x` first is the sum over the units whose
breakpoint lies below `x`. -/
theorem prefix_sum (a c : Fin n → ℝ) (x : ℝ) (ord : Equiv.Perm (Fin n)) (p : ℕ)
    (hp : ∀ i : Fin n, brk (a (ord i)) (c (ord i)) < (x : EReal) ↔ i.val < p) (f : Fin n → ℝ) :
    (∑ i, if i.val < p then f (ord i) else 0) = ∑ j, if brk (a j) (c j) < (x : EReal) then f j else 0 := by
  rw [← Equiv.sum_comp ord fun j => if brk (a j) (c j) < (x : EReal) then f j else 0]
  exact Finset.sum_congr rfl fun i _ => by simp only [hp i]

/-- The straight piece at position `p` of the table, evaluated at `x`, is the sum of the ramps. -/
theorem piece (a c w : Fin n → ℝ) (x : ℝ) (ord : Equiv.Perm (Fin n)) (p : ℕ)
    (hp : ∀ i : Fin n, brk (a (ord i)) (c (ord i)) < (x : EReal) ↔ i.val < p) :
    ((∑ j, a j * neg (a j) * w j) + ∑ i, if i.val < p then sgn (a (ord i)) * a (ord i) * w (ord i) else 0) * x
      + (((∑ j, c j * neg (a j) * w j) + ∑ j, max (c j) 0 * isz (a j) * w j)
        + ∑ i, if i.val < p then sgn (a (ord i)) * c (ord i) * w (ord i) else 0)
      = ∑ j, max (x * a j + c j) 0 * w j := by
  rw [prefix_sum a c x ord p hp fun j => sgn (a j) * a j * w j]
  rw [prefix_sum a c x ord p hp fun j => sgn (a j) * c j * w j]
  rw [add_mul, Finset.sum_mul, Finset.sum_mul]
  simp only [← Finset.sum_add_distrib]
  refine Finset.sum_congr rfl fun j _ => ?_
  rw [← ramp (a j) (c j) x]
  split <;> ring

/-- The same with an output bias, which may be infinite: the piece plus the bias is the sum of the ramps plus the
bias. -/
theorem piece_bias (a c w : Fin n → ℝ) (b : EReal) (x : ℝ) (ord : Equiv.Perm (Fin n)) (p : ℕ)
    (hp : ∀ i : Fin n, brk (a (ord i)) (c (ord i)) < (x : EReal) ↔ i.val < p) :
    (((∑ j, a j * neg (a j) * w j)
        + ∑ i, if i.val < p then sgn (a (ord i)) * a (ord i) * w (ord i) else 0 : ℝ) : EReal) * (x : EReal)
      + (b + ((∑ j, c j * neg (a j) * w j : ℝ) : EReal) + ((∑ j, max (c j) 0 * isz (a j) * w j : ℝ) : EReal)
        + ((∑ i, if i.val < p then sgn (a (ord i)) * c (ord i) * w (ord i) else 0 : ℝ) : EReal))
      = ((∑ j, max (x * a j + c j) 0 * w j : ℝ) : EReal) + b := by
  rw [← piece a c w x ord p hp]
  simp only [EReal.coe_add, EReal.coe_mul]
  abel

end Cert.Pwl
-- ==== Proof.Units.lean ====
module

public import proofs.«01_k».proof.Proof.Tables
public import proofs.«01_k».proof.Proof.Body
public import proofs.«01_k».proof.Proof.Pieces

/-!
# The tables of the units, at finite weights

With finite weights the breakpoints, the signs, the changes of line and the base sums are the real ones of `Pieces`.
-/

@[expose] public section

set_option maxRecDepth 16384

noncomputable section

namespace Cert.Pwl

open Idealize.ShloMosaic hiding ix0 ix1 ix2 ix3
open Idealize.ShloMosaic.ValueIdx
open Cert.KernelIdeal Cert.KernelIdeal.Gen
open scoped BigOperators

/-! ## Constants and comparisons -/

theorem lit_inf : Idealize.ShloMosaic.Ideal.ofBits .f32 0x7F800000#32 = ⊤ := by
  simp [Idealize.ShloMosaic.Ideal.ofBits, Idealize.ShloMosaic.Ideal.ieee]

theorem lit_one : Idealize.ShloMosaic.Ideal.ofBits .f32 0x3F800000#32 = ((1 : ℝ) : EReal) := by
  simp [Idealize.ShloMosaic.Ideal.ofBits, Idealize.ShloMosaic.Ideal.ieee, -EReal.coe_mul]; norm_num

theorem lit_neg_one : Idealize.ShloMosaic.Ideal.ofBits .f32 0xBF800000#32 = ((-1 : ℝ) : EReal) := by
  simp [Idealize.ShloMosaic.Ideal.ofBits, Idealize.ShloMosaic.Ideal.ieee, -EReal.coe_mul]; norm_num

theorem lit_zero : Idealize.ShloMosaic.Ideal.ofBits .f32 0x00000000#32 = 0 := Idealize.ShloMosaic.Ideal.ofBits_zero_f32

theorem every_apply (z : BitVec 32) (j : Fin 75) : every z (ix1 j) = Idealize.ShloMosaic.Ideal.ofBits .f32 z := rfl

theorem every_zero (j : Fin 75) : every 0#32 (ix1 j) = 0 := (every_apply _ _).trans lit_zero

/-- A bit as a number. -/
theorem number_bit (p : Prop) [Decidable p] :
    (FloatOps.uitofp (F := Idealize.ShloMosaic.Ideal) .f32 (bit p) : EReal) = ((if p then 1 else 0 : ℝ) : EReal) := by
  show (((bit p).toNat : ℝ) : EReal) = _
  by_cases h : p
  · simp [bit, h]
  · simp [bit, h]

theorem spread_apply (x : Vec Idealize.ShloMosaic.Ideal S75 .f32) (j : Fin 75) (k : Fin 4) : spread x (ix2 j k) = x (ix1 j) := by
  unfold spread
  pointwise
  rfl

section
variable (a b1 v : Vec Idealize.ShloMosaic.Ideal S75 .f32) (W2 : Vec Idealize.ShloMosaic.Ideal S75x4 .f32)
  (b2 : Vec Idealize.ShloMosaic.Ideal S4 .f32)
  (A C X : Fin 75 → ℝ) (W : Fin 75 → Fin 4 → ℝ)

theorem outs_apply (j : Fin 75) (k : Fin 4) : outs W2 (ix2 j k) = W2 (ix2 j k) := rfl

variable (ha : ∀ j, a (ix1 j) = ((A j : ℝ) : EReal)) (hc : ∀ j, b1 (ix1 j) = ((C j : ℝ) : EReal))
  (hv : ∀ j, v (ix1 j) = ((X j : ℝ) : EReal)) (hw : ∀ j k, W2 (ix2 j k) = ((W j k : ℝ) : EReal))

include ha in
theorem flat_apply (j : Fin 75) : flat a (ix1 j) = bit (A j = 0) := by
  show bit (a (ix1 j) = every 0#32 (ix1 j)) = _
  rw [every_zero, ha]
  exact bit_congr EReal.coe_eq_zero

include ha hc in
/-- The breakpoints. -/
theorem breaks_apply (j : Fin 75) : breaks a b1 (ix1 j) = brk (A j) (C j) := by
  have hf := flat_apply a A ha j
  show Scalar.select (flat a (ix1 j)) (Idealize.ShloMosaic.Ideal.ofBits .f32 0x7F800000#32)
    (Idealize.ShloMosaic.Ideal.div (-(b1 (ix1 j)))
      (Scalar.select (flat a (ix1 j)) (Idealize.ShloMosaic.Ideal.ofBits .f32 0x3F800000#32) (a (ix1 j)))) = _
  rw [hf, select_bit, select_bit, lit_inf, lit_one, ha, hc]
  unfold brk
  by_cases h : A j = 0
  · rw [if_pos h, if_pos h]
  · rw [if_neg h, if_neg h, if_neg h, Idealize.ShloMosaic.Ideal.div_coe h, ← EReal.coe_neg, ← EReal.coe_mul]
    congr 1
    ring

include ha in
theorem signs_apply (j : Fin 75) : signs a (ix1 j) = ((sgn (A j) : ℝ) : EReal) := by
  have hf := flat_apply a A ha j
  show Scalar.select (flat a (ix1 j)) (every 0#32 (ix1 j))
    (Scalar.select (bit (every 0#32 (ix1 j) < a (ix1 j))) (every 0x3F800000#32 (ix1 j)) (every 0xBF800000#32 (ix1 j))) = _
  rw [hf, select_bit, select_bit, every_zero, every_apply, every_apply, lit_one, lit_neg_one, ha]
  unfold sgn
  by_cases h : A j = 0
  · rw [if_pos h, if_pos h]; rfl
  · rw [if_neg h, if_neg h]
    by_cases h' : 0 < A j
    · rw [if_pos h', if_pos (EReal.coe_pos.mpr h')]
    · rw [if_neg h', if_neg (mt EReal.coe_pos.mp h')]

include ha hv hw in
/-- The changes of line. -/
theorem jumps_apply (j : Fin 75) (k : Fin 4) : jumps a v W2 (ix2 j k) = ((sgn (A j) * X j * W j k : ℝ) : EReal) := by
  show spread _ (ix2 j k) * outs W2 (ix2 j k) = _
  rw [spread_apply, outs_apply, hw]
  show signs a (ix1 j) * v (ix1 j) * _ = _
  rw [signs_apply a A ha, hv, EReal.coe_mul, EReal.coe_mul]

include ha in
theorem negs_apply (j : Fin 75) : negs a (ix1 j) = ((neg (A j) : ℝ) : EReal) := by
  show FloatOps.uitofp (F := Idealize.ShloMosaic.Ideal) .f32 (bit (a (ix1 j) < every 0#32 (ix1 j))) = _
  rw [number_bit, every_zero, ha]
  congr 1
  unfold neg
  exact if_congr EReal.coe_neg' rfl rfl

/-- A finite sum of reals, as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

include hv hw in
theorem total_apply (k : Fin 4) : total v W2 (ix1 k) = ((∑ j, X j * W j k : ℝ) : EReal) := by
  show Idealize.ShloMosaic.Ideal.hostReduceAdd reducesTo_S75x4_S4_d0 _ (Idealize.ShloMosaic.Ideal.ofBits .f32 0x00000000#32) (ix1 k) = _
  rw [Idealize.ShloMosaic.Ideal.hostReduceAdd_single _ (by decide), lit_zero, zero_add, coe_sum]
  refine Finset.sum_congr rfl fun (j : Fin 75) _ => ?_
  have e : (Shape.Reduces.lift (a := (0 : Fin S75x4.rank)) (by decide) (ix1 k : S4.Idx) j : S75x4.Idx) = ix2 j k := by
    funext d
    match d with
    | ⟨0, _⟩ => rfl
    | ⟨1, _⟩ => rfl
  refine (congrArg (mulf (F := Idealize.ShloMosaic.Ideal) (φ := .f32) (spread v) (outs W2)) e).trans ?_
  show spread v (ix2 j k) * outs W2 (ix2 j k) = _
  rw [spread_apply, outs_apply, hv, hw, EReal.coe_mul]

include ha hw in
theorem slope0_apply (k : Fin 4) : slope0 a W2 (ix1 k) = ((∑ j, A j * neg (A j) * W j k : ℝ) : EReal) := by
  refine total_apply _ W2 (fun j => A j * neg (A j)) W (fun j => ?_) hw k
  show a (ix1 j) * negs a (ix1 j) = _
  rw [ha, negs_apply a A ha, EReal.coe_mul]

include ha hc hw in
theorem offset0_apply (k : Fin 4) : offset0 a b1 W2 b2 (ix1 k)
    = b2 (ix1 k) + ((∑ j, C j * neg (A j) * W j k : ℝ) : EReal) + ((∑ j, max (C j) 0 * isz (A j) * W j k : ℝ) : EReal) := by
  have h1 := total_apply (mulf (F := Idealize.ShloMosaic.Ideal) (φ := .f32) b1 (negs a)) W2 (fun j => C j * neg (A j)) W
    (fun j => by
      show b1 (ix1 j) * negs a (ix1 j) = _
      rw [hc, negs_apply a A ha, EReal.coe_mul]) hw k
  have h2 := total_apply (mulf (F := Idealize.ShloMosaic.Ideal) (φ := .f32)
      (maximumf (F := Idealize.ShloMosaic.Ideal) (φ := .f32) b1 (every 0#32)) (uitofp (F := Idealize.ShloMosaic.Ideal) .f32 (flat a))) W2
    (fun j => max (C j) 0 * isz (A j)) W
    (fun j => by
      show max (b1 (ix1 j)) (every 0#32 (ix1 j)) * FloatOps.uitofp (F := Idealize.ShloMosaic.Ideal) .f32 (flat a (ix1 j)) = _
      rw [flat_apply a A ha, number_bit, every_zero, hc, EReal.coe_mul]
      refine congrArg₂ _ ?_ rfl
      rcases le_total (C j) 0 with h | h
      · rw [max_eq_right h, max_eq_right (EReal.coe_nonpos.mpr h)]; rfl
      · rw [max_eq_left h, max_eq_left (EReal.coe_nonneg.mpr h)]) hw k
  show b2 (ix1 k) + total _ W2 (ix1 k) + total _ W2 (ix1 k) = _
  rw [h1, h2]

end

end Cert.Pwl
-- ==== Proof.Order.lean ====
module

public import proofs.«01_k».proof.Proof.Units
public import Idealize.ShloMosaic.Lib.SortFacts
public import Idealize.ShloMosaic.Lib.Routing.OpsSet

/-!
# The order of the breakpoints

The host's argument sort gives a permutation of the units along which the breakpoints do not decrease; the gathers
then read the tables along it.
-/

@[expose] public section

set_option maxRecDepth 16384

noncomputable section

namespace Cert.Pwl

open Idealize.ShloMosaic hiding ix0 ix1 ix2 ix3
open Idealize.ShloMosaic.ValueIdx
open Cert.KernelIdeal Cert.KernelIdeal.Gen

/-- The comparator of the sort is the order of the extended reals: zeros are one value and there is nothing unordered. -/
theorem comparator_eq (l r : EReal × BitVec 32) :
    comparator_f32_i32_d0 (F := Idealize.ShloMosaic.Ideal) l r = bit (l.1 < r.1) := by
  have h : ∀ x : EReal, Scalar.select (bit (x ≠ x)) (Idealize.ShloMosaic.Ideal.ofBits .f32 0x7FC00000#32)
      (Scalar.select (bit (x = Idealize.ShloMosaic.Ideal.ofBits .f32 0x00000000#32))
        (Idealize.ShloMosaic.Ideal.ofBits .f32 0x00000000#32) x) = x := by
    intro x
    rw [select_bit, select_bit, if_neg (not_not.mpr rfl)]
    split
    · next h => exact h.symm
    · rfl
  have e : comparator_f32_i32_d0 (F := Idealize.ShloMosaic.Ideal) l r
      = bit (Scalar.select (bit (l.1 ≠ l.1)) (Idealize.ShloMosaic.Ideal.ofBits .f32 0x7FC00000#32)
      (Scalar.select (bit (l.1 = Idealize.ShloMosaic.Ideal.ofBits .f32 0x00000000#32))
        (Idealize.ShloMosaic.Ideal.ofBits .f32 0x00000000#32) l.1)
        < Scalar.select (bit (r.1 ≠ r.1)) (Idealize.ShloMosaic.Ideal.ofBits .f32 0x7FC00000#32)
      (Scalar.select (bit (r.1 = Idealize.ShloMosaic.Ideal.ofBits .f32 0x00000000#32))
        (Idealize.ShloMosaic.Ideal.ofBits .f32 0x00000000#32) r.1)) := rfl
  rw [e]
  exact bit_congr (by rw [h l.1, h r.1])

section
variable (v : Vec Idealize.ShloMosaic.Ideal S75 .f32)

/-- Whether one breakpoint is below another. -/
def below (i j : Fin 75) : Bool := decide (v (ix1 i) < v (ix1 j))

theorem below_true {i j : Fin 75} : below v i j = true ↔ v (ix1 i) < v (ix1 j) := decide_eq_true_iff

theorem below_false {i j : Fin 75} : below v i j = false ↔ v (ix1 j) ≤ v (ix1 i) := decide_eq_false_iff_not.trans not_lt

/-- The permutation the sort applies. -/
def perm : Equiv.Perm (Fin 75) :=
  Equiv.ofBijective (sortedFrom (below v)) ⟨sortedFrom_injective _, sortedFrom_surjective _⟩

theorem perm_apply (i : Fin 75) : perm v i = sortedFrom (below v) i := by
  unfold perm
  exact Equiv.ofBijective_apply _ _ _

/-- The breakpoints do not decrease along it. -/
theorem perm_mono {i j : Fin 75} (h : i ≤ j) : v (ix1 (perm v i)) ≤ v (ix1 (perm v j)) := by
  rcases eq_or_lt_of_le h with h | h
  · rw [h]
  · have h2 : below v (sortedFrom (below v) j) (sortedFrom (below v) i) = false :=
      sortedFrom_noInversion (below v) (below v)
        (fun a b hab => (below_false v).mpr ((below_true v).mp hab).le)
        (fun a b hab => hab)
        (fun a b c hab hbc => (below_false v).mpr (((below_false v).mp hbc).trans ((below_false v).mp hab)))
        i j h
    rw [perm_apply, perm_apply]
    exact (below_false v).mp h2

/-- The positions the sort returns are the permutation's. -/
theorem order_apply (i : Fin 75) : order v (ix1 i) = BitVec.ofNat 32 (perm v i).val := by
  have hal : ∀ k : Fin 75, (ix1 i : S75.Idx).along 0 k = ix1 k := fun k => funext fun d => match d with | ⟨0, _⟩ => rfl
  have hs : (fun k k' : Fin 75 => comparator_f32_i32_d0 (F := Idealize.ShloMosaic.Ideal)
      (v ((ix1 i : S75.Idx).along 0 k), iotaInDim S75 32 0 ((ix1 i : S75.Idx).along 0 k))
      (v ((ix1 i : S75.Idx).along 0 k'), iotaInDim S75 32 0 ((ix1 i : S75.Idx).along 0 k')) == 1#1) = below v := by
    funext k k'
    rw [comparator_eq, hal, hal]
    unfold below bit
    by_cases h : v (ix1 k) < v (ix1 k') <;> simp [h]
  show iotaInDim S75 32 0 ((ix1 i : S75.Idx).along 0 (sortedFrom (fun k k' : Fin 75 => comparator_f32_i32_d0 (F := Idealize.ShloMosaic.Ideal)
      (v ((ix1 i : S75.Idx).along 0 k), iotaInDim S75 32 0 ((ix1 i : S75.Idx).along 0 k))
      (v ((ix1 i : S75.Idx).along 0 k'), iotaInDim S75 32 0 ((ix1 i : S75.Idx).along 0 k')) == 1#1) i)) = _
  rw [hs]
  refine (congrArg (iotaInDim S75 32 0) (hal _)).trans ?_
  rw [perm_apply]
  rfl

/-- A position inside the units is no negative word, so the column keeps it. -/
theorem column_of (o : IVec S75 32) (i q : Fin 75) (h : o (ix1 i) = BitVec.ofNat 32 q.val) :
    column o (ix2 i 0) = BitVec.ofNat 32 q.val := by
  have hq := q.isLt
  have hlt : (BitVec.ofNat 32 q.val).slt 0#32 = false := by
    rw [BitVec.slt_eq_decide]
    have := StableHlo.Predicate.toInt_ofNat_small q.val (by omega)
    simp only [decide_eq_false_iff_not, not_lt, this]
    simp
  unfold column
  refine (Routing.bcCol _ _ i).trans ?_
  show Scalar.select (IntOp.cmpi .slt (o (ix1 i)) 0#32) _ (o (ix1 i)) = _
  rw [h]
  show Scalar.select (BitVec.ofBool ((BitVec.ofNat 32 q.val).slt 0#32)) _ _ = _
  rw [hlt]
  exact select_zero _ _

/-- The column the gathers take holds the permutation. -/
theorem column_apply (i : Fin 75) : column (order v) (ix2 i 0) = BitVec.ofNat 32 (perm v i).val :=
  column_of _ i _ (order_apply v i)

/-- The changes of line, gathered in the order of the breakpoints. -/
theorem sorted_apply (d : Vec Idealize.ShloMosaic.Ideal S75x4 .f32) (i : Fin 75) (k : Fin 4) :
    sorted (order v) d (ix2 i k) = d (ix2 (perm v i) k) :=
  Routing.gather_row _ rfl rfl rfl rfl rfl d _ i k (perm v i) (column_apply v i) (by norm_num)

/-- The breakpoints, gathered in their order. -/
theorem sorted_breaks (i : Fin 75) :
    Host.gather gather_S75_S75x1_S75_n_0_n_n_0_1_1 v (column (order v)) (ix1 i) = v (ix1 (perm v i)) :=
  Routing.gather_take1 _ rfl rfl rfl rfl v _ i (perm v i) (column_apply v i) (by norm_num)

end

end Cert.Pwl
-- ==== Proof.Prefix.lean ====
module

public import proofs.«01_k».proof.Proof.Units
public import Idealize.ShloMosaic.Lib.Routing.OpsPair
public import Mathlib.Algebra.BigOperators.Fin
public import Mathlib.Algebra.BigOperators.Intervals

/-!
# Running sums

The running sum of a column is a window sum over a column padded with zeros; at row `j` it is the sum of the rows up to
`j`. With a row of zeros on top and a base row added, row `p` of the lines is the base plus the first `p` changes.
-/

@[expose] public section

set_option maxRecDepth 16384

noncomputable section

namespace Cert.Pwl

open Idealize.ShloMosaic hiding ix0 ix1 ix2 ix3
open Idealize.ShloMosaic.ValueIdx
open Cert.KernelIdeal Cert.KernelIdeal.Gen
open scoped BigOperators

/-- A left fold of additions is the start plus the sum. -/
theorem foldl_sum {n : ℕ} (g : Fin n → EReal) (z : EReal) :
    (List.finRange n).foldl (fun r a => r + g a) z = z + ∑ a, g a := by
  have h : ∀ (l : List (Fin n)) (z : EReal), l.foldl (fun r a => r + g a) z = z + (l.map g).sum := by
    intro l
    induction l with
    | nil => intro z; simp
    | cons a l ih => intro z; rw [List.foldl_cons, ih, List.map_cons, List.sum_cons, add_assoc]
  rw [h, Fin.sum_univ_def]

/-- Of a window of 75 rows that ends at row `j` of a column padded with 74 zeros, the part inside the column is its
first `j + 1` rows. -/
theorem window_sum (f : ℕ → EReal) (j : ℕ) (hj : j < 75) :
    (∑ n ∈ Finset.range 75, if 74 ≤ j + n then f (j + n - 74) else 0) = ∑ i ∈ Finset.range 75, if i ≤ j then f i else 0 := by
  rw [← Finset.sum_filter, ← Finset.sum_filter]
  refine Finset.sum_nbij' (fun n => j + n - 74) (fun i => i + 74 - j) ?_ ?_ ?_ ?_ ?_
  · intro n hn
    simp only [Finset.mem_filter, Finset.mem_range] at hn ⊢
    omega
  · intro n hn
    simp only [Finset.mem_filter, Finset.mem_range] at hn ⊢
    omega
  · intro n hn
    simp only [Finset.mem_filter, Finset.mem_range] at hn
    omega
  · intro n hn
    simp only [Finset.mem_filter, Finset.mem_range] at hn
    omega
  · intro n hn
    rfl

/-- A column of the table as a function on the natural numbers. -/
def col (d : Vec Idealize.ShloMosaic.Ideal S75x4 .f32) (k : Fin 4) (i : ℕ) : EReal :=
  if h : i < 75 then d (ix2 (⟨i, h⟩ : Fin 75) k) else 0

/-- The running sum at row `j`. -/
theorem running_apply (d : Vec Idealize.ShloMosaic.Ideal S75x4 .f32) (j : Fin 75) (k : Fin 4) :
    running d (ix2 j k) = ∑ i : Fin 75, if i.val ≤ j.val then d (ix2 i k) else 0 := by
  have hj := j.isLt
  have hk := k.isLt
  have hN : (⟨2, ![75, 1]⟩ : Shape).numel = 75 := by decide
  show Host.reduceWindow (α := EReal) (s := S75x4) (u := ⟨0, ![]⟩) (t := S75x4) (· + ·) ![75, 1] ![1, 1] ![74, 0] ![0, 0] d
    (fun _ => Idealize.ShloMosaic.Ideal.ofBits .f32 0x00000000#32) reduceWindows_S75x4_S75x4_w75s1p74_0_w1s1p0_0 (by decide) (ix2 j k) = _
  unfold Host.reduceWindow
  refine (foldl_sum _ _).trans ?_
  rw [lit_zero, zero_add]
  have hg : ∀ n : Fin (⟨2, ![75, 1]⟩ : Shape).numel, n.val < 75 := fun n => n.isLt.trans_eq hN
  trans ∑ n : Fin (⟨2, ![75, 1]⟩ : Shape).numel, (fun m : ℕ => if 74 ≤ j.val + m then col d k (j.val + m - 74) else 0) n.val
  · refine Finset.sum_congr rfl fun n _ => ?_
    have hs : (⟨2, ![75, 1]⟩ : Shape).rowMajor.symm n = ix2 (⟨n.val / 1, by have := hg n; omega⟩ : Fin 75) (⟨n.val % 1, by omega⟩ : Fin 1) :=
      Routing.symm22 n _ _
    have h0 : ((⟨2, ![75, 1]⟩ : Shape).rowMajor.symm n 0).val = n.val := by rw [hs]; exact Nat.div_one _
    have h1 : ((⟨2, ![75, 1]⟩ : Shape).rowMajor.symm n 1).val = 0 := by rw [hs]; exact Nat.mod_one _
    have hn := hg n
    dsimp only
    by_cases hin : 74 ≤ j.val + n.val
    · have hp : ∀ a : Fin S75x4.rank, (![74, 0] : Fin 2 → ℕ) a
          ≤ ((ix2 j k : S75x4.Idx) a).val * (![1, 1] : Fin 2 → ℕ) a + ((⟨2, ![75, 1]⟩ : Shape).rowMajor.symm n a).val
          ∧ ((ix2 j k : S75x4.Idx) a).val * (![1, 1] : Fin 2 → ℕ) a + ((⟨2, ![75, 1]⟩ : Shape).rowMajor.symm n a).val
            - (![74, 0] : Fin 2 → ℕ) a < S75x4.size a := fun a => by
        match a with
        | ⟨0, _⟩ =>
          show 74 ≤ j.val * 1 + ((⟨2, ![75, 1]⟩ : Shape).rowMajor.symm n 0).val
            ∧ j.val * 1 + ((⟨2, ![75, 1]⟩ : Shape).rowMajor.symm n 0).val - 74 < 75
          rw [h0]; omega
        | ⟨1, _⟩ =>
          show 0 ≤ k.val * 1 + ((⟨2, ![75, 1]⟩ : Shape).rowMajor.symm n 1).val
            ∧ k.val * 1 + ((⟨2, ![75, 1]⟩ : Shape).rowMajor.symm n 1).val - 0 < 4
          rw [h1]; omega
      refine (dif_pos hp).trans ?_
      rw [if_pos hin]
      unfold col
      rw [dif_pos (by omega)]
      refine congrArg d (funext fun a => Fin.ext ?_)
      match a with
      | ⟨0, _⟩ =>
        show j.val * 1 + ((⟨2, ![75, 1]⟩ : Shape).rowMajor.symm n 0).val - 74 = j.val + n.val - 74
        rw [h0, Nat.mul_one]
      | ⟨1, _⟩ =>
        show k.val * 1 + ((⟨2, ![75, 1]⟩ : Shape).rowMajor.symm n 1).val - 0 = k.val
        rw [h1]; omega
    · rw [if_neg hin, dif_neg fun h => hin ?_]
      have := (h 0).1
      change 74 ≤ j.val * 1 + ((⟨2, ![75, 1]⟩ : Shape).rowMajor.symm n 0).val at this
      rw [h0] at this
      omega
  · rw [Fin.sum_univ_eq_sum_range (fun m : ℕ => if 74 ≤ j.val + m then col d k (j.val + m - 74) else 0), hN, window_sum _ _ hj,
      ← Fin.sum_univ_eq_sum_range (fun i => if i ≤ j.val then col d k i else 0)]
    refine Finset.sum_congr rfl fun i _ => ?_
    unfold col
    rw [dif_pos i.isLt]

/-- The table under its row of zeros, at the row of zeros. -/
theorem under_zero (x : Vec Idealize.ShloMosaic.Ideal S1x4 .f32) (y : Vec Idealize.ShloMosaic.Ideal S75x4 .f32) (p : Fin 76)
    (k : Fin 4) (h : p.val = 0) : under x y (ix2 p k) = x (ix2 0 k) := by
  unfold under
  pointwise
  rw [dif_pos (show p.val < 1 by omega)]
  refine congrArg x (funext fun d => ?_)
  match d with
  | ⟨0, _⟩ => exact Fin.ext h
  | ⟨1, _⟩ => rfl

/-- The table under its row of zeros, below it. -/
theorem under_succ (x : Vec Idealize.ShloMosaic.Ideal S1x4 .f32) (y : Vec Idealize.ShloMosaic.Ideal S75x4 .f32) (p : Fin 76)
    (k : Fin 4) (q : Fin 75) (h : p.val = q.val + 1) : under x y (ix2 p k) = y (ix2 q k) := by
  unfold under
  pointwise
  rw [dif_neg (show ¬ p.val < 1 by omega)]
  refine congrArg y (funext fun d => ?_)
  match d with
  | ⟨0, _⟩ => exact Fin.ext (show p.val - 1 = q.val by omega)
  | ⟨1, _⟩ => rfl

/-- The lines: the base plus the changes before. -/
theorem lines_apply (base : Vec Idealize.ShloMosaic.Ideal S4 .f32) (d : Vec Idealize.ShloMosaic.Ideal S75x4 .f32) (p : Fin 76) (k : Fin 4) :
    lines base d (ix2 p k) = base (ix1 k) + ∑ i : Fin 75, if i.val < p.val then d (ix2 i k) else 0 := by
  have hb : broadcastInDim S76x4 ![0, 1] bcast_S1x4_S76x4_0_1 (broadcastInDim S1x4 ![1] bcast_S4_S1x4_1 base) (ix2 p k) = base (ix1 k) := by
    pointwise
    rfl
  have hp := p.isLt
  show broadcastInDim S76x4 ![0, 1] bcast_S1x4_S76x4_0_1 (broadcastInDim S1x4 ![1] bcast_S4_S1x4_1 base) (ix2 p k)
    + under _ _ (ix2 p k) = _
  rw [hb]
  congr 1
  by_cases h : p.val = 0
  · rw [under_zero _ _ p k h]
    refine lit_zero.trans (Finset.sum_eq_zero fun i _ => if_neg (by omega)).symm
  · rw [under_succ _ _ p k ⟨p.val - 1, by omega⟩ (by show p.val = p.val - 1 + 1; omega), running_apply]
    refine Finset.sum_congr rfl fun i _ => if_congr ?_ rfl rfl
    show i.val ≤ p.val - 1 ↔ _
    omega

end Cert.Pwl
-- ==== Proof.Place.lean ====
module

public import proofs.«01_k».proof.Proof.Tables
public import proofs.«01_k».proof.Proof.Body
public import Idealize.ShloMosaic.Lib.Routing.OpsSet
public import Idealize.ShloMosaic.Lib.Routing.OpsPair

/-!
# Where the tables' entries are written

The two scatters write one block each, from a start position the index words give: the sorted breakpoints over the
first 75 of 128 entries, and the lines over four of the eight rows of the coefficient table.
-/

@[expose] public section

set_option maxRecDepth 16384

noncomputable section

namespace Cert.Pwl

open Idealize.ShloMosaic hiding ix0 ix1 ix2 ix3
open Idealize.ShloMosaic.ValueIdx
open Cert.KernelIdeal Cert.KernelIdeal.Gen

theorem corner_zero (z y : BitVec 32) : corner (start z) (start y) (ix1 0) = z := by
  unfold corner start
  pointwise

theorem corner_one (z y : BitVec 32) : corner (start z) (start y) (ix1 1) = y := by
  unfold corner start
  pointwise

section
variable (idx : IVec S2 32)

theorem row_window (p : Fin 75) : scatter_S1x128_S2_S75_0_0_01_0.window (ix1 p) 0 = 0
    ∧ scatter_S1x128_S2_S75_0_0_01_0.window (ix1 p) 1 = p.val := ⟨rfl, rfl⟩

theorem row_start (p : Fin 75) : scatter_S1x128_S2_S75_0_0_01_0.start (ix1 p) idx 0 = (idx (ix1 0)).toInt
    ∧ scatter_S1x128_S2_S75_0_0_01_0.start (ix1 p) idx 1 = (idx (ix1 1)).toInt := by
  constructor
  · show (idx _).toInt = _
    congr 2
    funext d
    match d with
    | ⟨0, _⟩ => rfl
  · show (idx _).toInt = _
    congr 2
    funext d
    match d with
    | ⟨0, _⟩ => rfl

theorem table_window (k : Fin 4) (p : Fin 76) : scatter_S8x128_S2_S4x76_01_n_01_0.window (ix2 k p) 0 = k.val
    ∧ scatter_S8x128_S2_S4x76_01_n_01_0.window (ix2 k p) 1 = p.val := ⟨rfl, rfl⟩

theorem table_start (k : Fin 4) (p : Fin 76) : scatter_S8x128_S2_S4x76_01_n_01_0.start (ix2 k p) idx 0 = (idx (ix1 0)).toInt
    ∧ scatter_S8x128_S2_S4x76_01_n_01_0.start (ix2 k p) idx 1 = (idx (ix1 1)).toInt := by
  constructor
  · show (idx _).toInt = _
    congr 2
    funext d
    match d with
    | ⟨0, _⟩ => rfl
  · show (idx _).toInt = _
    congr 2
    funext d
    match d with
    | ⟨0, _⟩ => rfl
end

/-- An update lands where its start position plus its place in the window says, if that is inside the operand. -/
theorem lands_iff {s si u : Shape} {w : ℕ} (d : ScatterDims s si u) (j : u.Idx) (idx : IVec si w) (ι : s.Idx) :
    d.resultIdx? j idx = some ι ↔ ∀ a, d.start j idx a + d.window j a = ((ι a).val : ℤ) := by
  unfold ScatterDims.resultIdx?
  constructor
  · intro h a
    split at h
    · next hin =>
      have := congrFun (Option.some.inj h) a
      have h2 := congrArg Fin.val this
      have h3 := hin a
      simp only at h2
      omega
    · cases h
  · intro h
    rw [dif_pos fun a => by have := h a; have := (ι a).isLt; omega]
    refine congrArg some (funext fun a => Fin.ext ?_)
    have := h a
    show (d.start j idx a + d.window j a).toNat = (ι a).val
    omega

theorem row_lands (p : Fin 75) (i : Fin 128) :
    scatter_S1x128_S2_S75_0_0_01_0.resultIdx? (ix1 p) (corner (start 0#32) (start 0#32)) = some (ix2 (0 : Fin 1) i) ↔ p.val = i.val := by
  have hs := row_start (corner (start 0#32) (start 0#32)) p
  have hw := row_window p
  rw [corner_zero, corner_one] at hs
  rw [lands_iff]
  constructor
  · intro h
    have h1 := h 1
    rw [hs.2, hw.2] at h1
    have h2 : (0 : ℤ) + (p.val : ℤ) = (i.val : ℤ) := h1
    omega
  · intro h a
    match a with
    | ⟨0, _⟩ => exact (congrArg₂ (fun (x : ℤ) (y : ℕ) => x + (y : ℤ)) hs.1 hw.1)
    | ⟨1, _⟩ =>
      refine (congrArg₂ (fun (x : ℤ) (y : ℕ) => x + (y : ℤ)) hs.2 hw.2).trans ?_
      show (0 : ℤ) + (p.val : ℤ) = (i.val : ℤ)
      omega

theorem table_lands (z : BitVec 32) (z0 : ℕ) (hz : z.toInt = z0) (k : Fin 4) (p : Fin 76) (r : Fin 8) (i : Fin 128) :
    scatter_S8x128_S2_S4x76_01_n_01_0.resultIdx? (ix2 k p) (corner (start z) (start 0#32)) = some (ix2 r i)
      ↔ z0 + k.val = r.val ∧ p.val = i.val := by
  have hs := table_start (corner (start z) (start 0#32)) k p
  have hw := table_window k p
  rw [corner_zero, corner_one, hz] at hs
  rw [lands_iff]
  constructor
  · intro h
    have h0 := h 0
    have h1 := h 1
    rw [hs.1, hw.1] at h0
    rw [hs.2, hw.2] at h1
    have h2 : (0 : ℤ) + (p.val : ℤ) = (i.val : ℤ) := h1
    have h3 : (z0 : ℤ) + (k.val : ℤ) = (r.val : ℤ) := h0
    omega
  · intro h a
    match a with
    | ⟨0, _⟩ =>
      refine (congrArg₂ (fun (x : ℤ) (y : ℕ) => x + (y : ℤ)) hs.1 hw.1).trans ?_
      show (z0 : ℤ) + (k.val : ℤ) = (r.val : ℤ)
      omega
    | ⟨1, _⟩ =>
      refine (congrArg₂ (fun (x : ℤ) (y : ℕ) => x + (y : ℤ)) hs.2 hw.2).trans ?_
      show (0 : ℤ) + (p.val : ℤ) = (i.val : ℤ)
      omega

theorem idx75 (k : S75.Idx) : ∃ p : Fin 75, k = ix1 p :=
  ⟨k 0, funext fun d => match d with | ⟨0, _⟩ => rfl⟩

theorem idx476 (k : S4x76.Idx) : ∃ (q : Fin 4) (p : Fin 76), k = ix2 q p :=
  ⟨k 0, k 1, funext fun d => match d with | ⟨0, _⟩ => rfl | ⟨1, _⟩ => rfl⟩

/-- The first 75 entries of the padded row are the breakpoints in their order. -/
theorem padded_low (v : Vec Idealize.ShloMosaic.Ideal S75 .f32) (p : Fin 75) :
    tab (padded v) p.val = Host.gather gather_S75_S75x1_S75_n_0_n_n_0_1_1 v (column (order v)) (ix1 p) := by
  unfold tab
  have hp : p.val < 128 := by have := p.isLt; omega
  rw [dif_pos hp]
  refine Routing.scatter_set_hit _ _ _ _ _ _ (fun k hk => ?_) (ix1 p) ((row_lands p ⟨p.val, hp⟩).mpr rfl)
  obtain ⟨q, rfl⟩ := idx75 k
  rw [Fin.ext ((row_lands q ⟨p.val, hp⟩).mp hk)]

/-- The entries after them are infinite. -/
theorem padded_high (v : Vec Idealize.ShloMosaic.Ideal S75 .f32) (i : ℕ) (h : 75 ≤ i) : tab (padded v) i = ⊤ := by
  unfold tab
  split
  · next hi =>
    refine (Routing.scatter_set_miss _ _ _ _ _ fun k hk => ?_).trans (?_ : Idealize.ShloMosaic.Ideal.ofBits .f32 0x7F800000#32 = ⊤)
    · obtain ⟨q, rfl⟩ := idx75 k
      have h1 := (row_lands q ⟨i, hi⟩).mp hk
      have h2 := q.isLt
      simp only at h1
      omega
    · simp [Idealize.ShloMosaic.Ideal.ofBits, Idealize.ShloMosaic.Ideal.ieee]
  · rfl

/-- Inside the rows written, the coefficient table holds the lines. -/
theorem written_hit (t : Vec Idealize.ShloMosaic.Ideal S8x128 .f32) (z : BitVec 32) (z0 : ℕ) (hz : z.toInt = z0)
    (l : Vec Idealize.ShloMosaic.Ideal S76x4 .f32) (k : Fin 4) (p : Fin 76) (r : Fin 8) (i : Fin 128)
    (hr : z0 + k.val = r.val) (hi : p.val = i.val) : written t z l (ix2 r i) = l (ix2 p k) := by
  refine Routing.scatter_set_hit _ _ _ _ _ _ (fun q hq => ?_) (ix2 k p) ((table_lands z z0 hz k p r i).mpr ⟨hr, hi⟩)
  obtain ⟨k', p', rfl⟩ := idx476 q
  have h := (table_lands z z0 hz k' p' r i).mp hq
  rw [show k' = k from Fin.ext (by omega), show p' = p from Fin.ext (by omega)]
  pointwise
  rfl

/-- Outside them it keeps what it held. -/
theorem written_miss (t : Vec Idealize.ShloMosaic.Ideal S8x128 .f32) (z : BitVec 32) (z0 : ℕ) (hz : z.toInt = z0)
    (l : Vec Idealize.ShloMosaic.Ideal S76x4 .f32) (r : Fin 8) (i : Fin 128)
    (hr : r.val < z0 ∨ z0 + 4 ≤ r.val) : written t z l (ix2 r i) = t (ix2 r i) := by
  refine Routing.scatter_set_miss _ _ _ _ _ fun q hq => ?_
  obtain ⟨k', p', rfl⟩ := idx476 q
  have h := (table_lands z z0 hz k' p' r i).mp hq
  have := k'.isLt
  omega

end Cert.Pwl
-- ==== Proof.BodyOut.lean ====
module

public import proofs.«01_k».proof.Proof.Body
public import Idealize.ShloMosaic.Lib.StableHlo.Predicate

/-!
# What the kernel's body writes

The position found by the search picks one column of the coefficient table; the body writes, for each of the four
outputs, slope times input plus offset. Row `4 i + k` of the block it writes holds output `k` of row `i` of its inputs.
-/

@[expose] public section

set_option maxRecDepth 16384

noncomputable section

namespace Cert.Pwl

open Idealize.ShloMosaic hiding ix0 ix1 ix2 ix3
open Idealize.ShloMosaic.ValueIdx
open Cert.KernelIdeal Cert.KernelIdeal.Gen

/-- Taking, at every element of a block, the entry of one row that a position word names: jax first adds the row's
length to a negative word, which changes nothing for a position inside the row. -/
theorem take_row (v : Vec Ideal S1x128 .f32) (w : IVec S2048x128 32) (r : Fin 2048) (l : Fin 128) (p : ℕ)
    (hp : p < 128) (hw : w (ix2 r l) = BitVec.ofNat 32 p) :
    dynamicGather 1 (broadcastTo S2048x128 (shapeCast S1x128 (shapeCast S1x128 v shapeCasts_S1x128_S1x128)
        shapeCasts_S1x128_S1x128) broadcasts_S1x128_S2048x128)
      (shapeCast S2048x128 (shapeCast S2048x128x1 (select (cmpi .slt w (broadcast S2048x128 0#32))
        (addi w (broadcast S2048x128 128#32)) w) shapeCasts_S2048x128_S2048x128x1) shapeCasts_S2048x128x1_S2048x128)
      (ix2 r l) = tab v p := by
  have hlt : ¬ (BitVec.ofNat 32 p).slt 0#32 = true := by
    rw [BitVec.slt_eq_decide]
    have := StableHlo.Predicate.toInt_ofNat_small p (by omega)
    simp only [decide_eq_true_eq, not_lt, this]
    simp
  have hs : select (cmpi .slt w (broadcast S2048x128 0#32)) (addi w (broadcast S2048x128 128#32)) w (ix2 r l)
      = BitVec.ofNat 32 p := by
    simp only [select_apply, cmpi_apply, addi_apply, broadcast_apply, hw]
    rw [show IntOp.cmpi .slt (BitVec.ofNat 32 p) 0#32 = 0#1 from by
      show BitVec.ofBool ((BitVec.ofNat 32 p).slt 0#32) = 0#1
      rw [Bool.eq_false_iff.mpr hlt]; rfl, select_zero]
  simp only [shapeCast_self, shapeCast_shapeCast]
  have hi : dynamicGather 1 (broadcastTo S2048x128 v broadcasts_S1x128_S2048x128)
      (select (cmpi .slt w (broadcast S2048x128 0#32)) (addi w (broadcast S2048x128 128#32)) w) (ix2 r l)
      = broadcastTo S2048x128 v broadcasts_S1x128_S2048x128 (ix2 r (⟨p, hp⟩ : Fin 128)) := by
    unfold dynamicGather
    refine congrArg _ (funext fun d => ?_)
    match d with
    | ⟨0, _⟩ => rfl
    | ⟨1, _⟩ =>
      refine Fin.ext ?_
      show (select (cmpi .slt w (broadcast S2048x128 0#32)) (addi w (broadcast S2048x128 128#32)) w (ix2 r l)).toNat
        % 128 = p
      rw [hs, BitVec.toNat_ofNat]
      omega
  rw [hi]
  unfold tab
  rw [dif_pos hp]
  pointwise
  rfl

/-- A row of the coefficient table, read as a table on the natural numbers. -/
theorem tab_row (x2 : Vec Ideal S8x128 .f32) (k : ℕ) (hk : k < 8) (hb) (p : ℕ) (hp : p < 128) :
    tab (View.ld x2 (Rect.unit (s := S8x128) ![k, 0] S1x128.size hb)) p
      = x2 (ix2 (⟨k, hk⟩ : Fin 8) (⟨p, hp⟩ : Fin 128)) := by
  unfold tab
  rw [dif_pos hp]
  show x2 _ = x2 _
  congr 1
  funext d
  match d with
  | ⟨0, _⟩ => exact Fin.ext (by show k + 1 * 0 = k; omega)
  | ⟨1, _⟩ => exact Fin.ext (by show 0 + 1 * p = p; omega)

section
variable (x0 : Vec Ideal S2048x128 .f32) (x1 : Vec Ideal S1x128 .f32) (x2 : Vec Ideal S8x128 .f32)
  (r : Fin 2048) (l : Fin 128)

/-- The search never leaves the table. -/
theorem pos7_lt (T : ℕ → EReal) (x : EReal) : pos7 T x < 128 := by
  have h5 := pos5_le T x
  have h6 := step_le T x 2 (pos5 T x)
  have h7 := step_le T x 1 (step T x 2 (pos5 T x))
  unfold pos7
  omega

/-- The breakpoints are read as one row, whole. -/
theorem whole_row (p : ℕ) : tab (View.ld x1 r0_1) p = tab x1 p := by
  unfold tab
  split
  · show x1 _ = x1 _
    congr 1
    funext d
    match d with
    | ⟨0, _⟩ => rfl
    | ⟨1, _⟩ => exact Fin.ext (by show 0 + 1 * p = p; omega)
  · rfl

/-- Sixth comparison: the entry after the position, fetched by a gather. -/
theorem cond6 : k0_pay45 x0 x1 x2 (ix2 r l)
    = bit (tab x1 (pos5 (tab x1) (x0 (ix2 r l)) + 1) < x0 (ix2 r l)) := by
  have hx := input_apply x0 x1 x2 r l
  have hw := word5 x0 x1 x2 r l
  have h5 := pos5_le (tab x1) (x0 (ix2 r l))
  unfold k0_pay44 at hw
  unfold k0_pay45 k0_pay25 k0_pay34 k0_pay3
  dsimp only
  rw [cmpf_apply, take_row (View.ld x1 r0_1) _ r l (pos5 (tab x1) (x0 (ix2 r l)) + 1) (by omega) ?_, hx, whole_row,
    cmp_lt]
  rw [addi_apply, hw, broadcast_apply]
  exact (BitVec.ofNat_add _ _).symm

/-- The position word after all seven comparisons. -/
theorem word7 : k0_pay46 x0 x1 x2 (ix2 r l) = BitVec.ofNat 32 (pos7 (tab x1) (x0 (ix2 r l))) := by
  have hx := input_apply x0 x1 x2 r l
  have hw := word5 x0 x1 x2 r l
  have h6 := cond6 x0 x1 x2 r l
  have h5 := pos5_le (tab x1) (x0 (ix2 r l))
  have hl := step_le (tab x1) (x0 (ix2 r l)) 2 (pos5 (tab x1) (x0 (ix2 r l)))
  have w6 : select (k0_pay45 x0 x1 x2) (addi (k0_pay44 x0 x1 x2) (broadcast S2048x128 2#32)) (k0_pay44 x0 x1 x2)
      (ix2 r l) = BitVec.ofNat 32 (step (tab x1) (x0 (ix2 r l)) 2 (pos5 (tab x1) (x0 (ix2 r l)))) := by
    rw [select_apply, h6, select_bit, addi_apply, hw, broadcast_apply]
    unfold step
    by_cases c : tab x1 (pos5 (tab x1) (x0 (ix2 r l)) + 1) < x0 (ix2 r l)
    · rw [if_pos c, if_pos c]; exact (BitVec.ofNat_add _ _).symm
    · rw [if_neg c, if_neg c]
  unfold k0_pay46 k0_pay26 k0_pay34 k0_pay3
  dsimp only
  rw [select_apply, cmpf_apply, take_row (View.ld x1 r0_1) _ r l
    (step (tab x1) (x0 (ix2 r l)) 2 (pos5 (tab x1) (x0 (ix2 r l)))) (by omega) ?_, hx, whole_row, cmp_lt, select_bit,
    addi_apply, w6, broadcast_apply]
  · unfold pos7
    generalize step (tab x1) (x0 (ix2 r l)) 2 (pos5 (tab x1) (x0 (ix2 r l))) = q
    unfold step
    rw [show q + (1 - 1) = q from rfl]
    by_cases c : tab x1 q < x0 (ix2 r l)
    · rw [if_pos c, if_pos c]; exact (BitVec.ofNat_add _ _).symm
    · rw [if_neg c, if_neg c]
  · rw [addi_apply, w6, broadcast_apply]
    exact BitVec.add_zero _

/-- Output `k` of one element: slope times input plus offset, both from the column that the search found. -/
def line (k : Fin 4) : EReal :=
  x2 (ix2 (⟨k.val, by omega⟩ : Fin 8) (⟨pos7 (tab x1) (x0 (ix2 r l)), pos7_lt _ _⟩ : Fin 128)) * x0 (ix2 r l)
    + x2 (ix2 (⟨k.val + 4, by omega⟩ : Fin 8) (⟨pos7 (tab x1) (x0 (ix2 r l)), pos7_lt _ _⟩ : Fin 128))

theorem plane0 : k0_pay27 (k0_pay33 x0 x1 x2) (k0_pay34 x0 x1 x2) (k0_pay44 x0 x1 x2) (k0_pay45 x0 x1 x2)
    (View.ld x2 r0_33) (View.ld x2 r0_34) (ix2 r l) = line x0 x1 x2 r l 0 := by
  have hx := input_apply x0 x1 x2 r l
  have hw := word7 x0 x1 x2 r l
  unfold k0_pay46 at hw
  unfold k0_pay27
  rw [addf_apply, mulf_apply, take_row _ _ r l _ (pos7_lt _ _) hw, take_row _ _ r l _ (pos7_lt _ _) hw, hx,
    tab_row x2 0 (by norm_num), tab_row x2 4 (by norm_num)]
  rfl

theorem plane1 : k0_pay29 (k0_pay33 x0 x1 x2) (k0_pay46 x0 x1 x2) (k0_pay28 (View.ld x2 r0_35)) (View.ld x2 r0_36)
    (ix2 r l) = line x0 x1 x2 r l 1 := by
  have hx := input_apply x0 x1 x2 r l
  have hw := word7 x0 x1 x2 r l
  unfold k0_pay29 k0_pay28
  rw [addf_apply, mulf_apply, take_row _ _ r l _ (pos7_lt _ _) hw, take_row _ _ r l _ (pos7_lt _ _) hw, hx,
    tab_row x2 1 (by norm_num), tab_row x2 5 (by norm_num)]
  rfl

theorem plane2 : addf (mulf (k0_pay30 (k0_pay46 x0 x1 x2) (View.ld x2 r0_37)) (k0_pay33 x0 x1 x2))
    (dynamicGather 1 (k0_pay31 (View.ld x2 r0_38)) (shapeCast S2048x128 (k0_pay32 (k0_pay46 x0 x1 x2))
      shapeCasts_S2048x128x1_S2048x128)) (ix2 r l) = line x0 x1 x2 r l 2 := by
  have hx := input_apply x0 x1 x2 r l
  have hw := word7 x0 x1 x2 r l
  unfold k0_pay30 k0_pay31 k0_pay32
  rw [addf_apply, mulf_apply, take_row _ _ r l _ (pos7_lt _ _) hw, take_row _ _ r l _ (pos7_lt _ _) hw, hx,
    tab_row x2 2 (by norm_num), tab_row x2 6 (by norm_num)]
  rfl

/-- The fourth output's line. -/
theorem plane3 : addf (mulf (k0_pay30 (k0_pay46 x0 x1 x2) (View.ld x2 r0_39)) (k0_pay33 x0 x1 x2))
    (dynamicGather 1 (k0_pay31 (View.ld x2 r0_40)) (shapeCast S2048x128 (k0_pay32 (k0_pay46 x0 x1 x2))
      shapeCasts_S2048x128x1_S2048x128)) (ix2 r l) = line x0 x1 x2 r l 3 := by
  have hx := input_apply x0 x1 x2 r l
  have hw := word7 x0 x1 x2 r l
  unfold k0_pay30 k0_pay31 k0_pay32
  rw [addf_apply, mulf_apply, take_row _ _ r l _ (pos7_lt _ _) hw, take_row _ _ r l _ (pos7_lt _ _) hw, hx,
    tab_row x2 3 (by norm_num), tab_row x2 7 (by norm_num)]
  rfl

/-- Four planes stacked row by row: row `4 i + k` is row `i` of plane `k`. -/
theorem stack4 (A : Fin 4 → FVec Ideal S2048x128 .f32) (k : Fin 4) (hq : 4 * r.val + k.val < 8192) :
    View.canon (Val := Elt Ideal) (e := .f32) [⟨r0_41, shapeCast S8192x128 (concatenate S2048x4x128 1
      [⟨S2048x1x128, shapeCast S2048x1x128 (A 0) shapeCasts_S2048x128_S2048x1x128⟩,
        ⟨S2048x1x128, shapeCast S2048x1x128 (A 1) shapeCasts_S2048x128_S2048x1x128⟩,
        ⟨S2048x1x128, shapeCast S2048x1x128 (A 2) shapeCasts_S2048x128_S2048x1x128⟩,
        ⟨S2048x1x128, shapeCast S2048x1x128 (A 3) shapeCasts_S2048x128_S2048x1x128⟩]
      concatenates_S2048x1x128_S2048x1x128_S2048x1x128_S2048x1x128_S2048x4x128_d1) shapeCasts_S2048x4x128_S8192x128⟩]
      (ix2 (⟨4 * r.val + k.val, hq⟩ : Fin 8192) l) = A k (ix2 r l) := by
  frame_out
  match k with
  | ⟨0, _⟩ =>
    pointwise
    rw [dif_pos (by omega)]
    refine congrArg (A 0) (funext fun d => ?_)
    match d with
    | ⟨0, _⟩ => exact Fin.ext (show 4 * r.val / 4 = r.val by omega)
    | ⟨1, _⟩ => rfl
  | ⟨1, _⟩ =>
    pointwise
    rw [dif_neg (by omega), dif_pos (by omega)]
    refine congrArg (A 1) (funext fun d => ?_)
    match d with
    | ⟨0, _⟩ => exact Fin.ext (show (4 * r.val + 1) / 4 = r.val by omega)
    | ⟨1, _⟩ => rfl
  | ⟨2, _⟩ =>
    pointwise
    rw [dif_neg (by omega), dif_neg (by omega), dif_pos (by omega)]
    refine congrArg (A 2) (funext fun d => ?_)
    match d with
    | ⟨0, _⟩ => exact Fin.ext (show (4 * r.val + 2) / 4 = r.val by omega)
    | ⟨1, _⟩ => rfl
  | ⟨3, _⟩ =>
    pointwise
    rw [dif_neg (by omega), dif_neg (by omega), dif_neg (by omega)]
    refine congrArg (A 3) (funext fun d => ?_)
    match d with
    | ⟨0, _⟩ => exact Fin.ext (show (4 * r.val + 3) / 4 = r.val by omega)
    | ⟨1, _⟩ => rfl

/-- What the body stores: at row `4 i + k` and lane `l`, output `k` of element `(i, l)`. -/
theorem stored (k : Fin 4) (hq : 4 * r.val + k.val < 8192) :
    out0_3 x0 x1 x2 (ix2 (⟨4 * r.val + k.val, hq⟩ : Fin 8192) l) = line x0 x1 x2 r l k := by
  refine (stack4 r l ![k0_pay27 (k0_pay33 x0 x1 x2) (k0_pay34 x0 x1 x2) (k0_pay44 x0 x1 x2) (k0_pay45 x0 x1 x2)
      (View.ld x2 r0_33) (View.ld x2 r0_34),
    k0_pay29 (k0_pay33 x0 x1 x2) (k0_pay46 x0 x1 x2) (k0_pay28 (View.ld x2 r0_35)) (View.ld x2 r0_36),
    addf (mulf (k0_pay30 (k0_pay46 x0 x1 x2) (View.ld x2 r0_37)) (k0_pay33 x0 x1 x2))
      (dynamicGather 1 (k0_pay31 (View.ld x2 r0_38)) (shapeCast S2048x128 (k0_pay32 (k0_pay46 x0 x1 x2))
        shapeCasts_S2048x128x1_S2048x128)),
    addf (mulf (k0_pay30 (k0_pay46 x0 x1 x2) (View.ld x2 r0_39)) (k0_pay33 x0 x1 x2))
      (dynamicGather 1 (k0_pay31 (View.ld x2 r0_40)) (shapeCast S2048x128 (k0_pay32 (k0_pay46 x0 x1 x2))
        shapeCasts_S2048x128x1_S2048x128))] k hq).trans ?_
  match k with
  | ⟨0, _⟩ => exact plane0 x0 x1 x2 r l
  | ⟨1, _⟩ => exact plane1 x0 x1 x2 r l
  | ⟨2, _⟩ => exact plane2 x0 x1 x2 r l
  | ⟨3, _⟩ => exact plane3 x0 x1 x2 r l

end

end Cert.Pwl
-- ==== Proof.Line.lean ====
module

public import proofs.«01_k».proof.Proof.Order
public import proofs.«01_k».proof.Proof.Prefix
public import proofs.«01_k».proof.Proof.Place
public import proofs.«01_k».proof.Proof.BodyOut

/-!
# One output element, at finite weights

With the host's tables, the line that the body's search picks is, at a finite input, the sum of the ramps.
-/

@[expose] public section

set_option maxRecDepth 16384

noncomputable section

namespace Cert.Pwl

open Idealize.ShloMosaic hiding ix0 ix1 ix2 ix3
open Idealize.ShloMosaic.ValueIdx
open Cert.KernelIdeal Cert.KernelIdeal.Gen
open scoped BigOperators

section
variable (v : Vec Idealize.ShloMosaic.Ideal S75 .f32)

/-- The padded row: the breakpoints in their order, then infinities. -/
theorem tab_padded (i : ℕ) : tab (padded v) i = if h : i < 75 then v (ix1 (perm v ⟨i, h⟩)) else ⊤ := by
  split
  · next h => exact (padded_low v ⟨i, h⟩).trans (sorted_breaks v ⟨i, h⟩)
  · next h => exact padded_high v i (by omega)

/-- It does not decrease. -/
theorem padded_mono : Monotone (tab (padded v)) := by
  intro i j hij
  rw [tab_padded, tab_padded]
  by_cases hj : j < 75
  · rw [dif_pos hj, dif_pos (by omega)]
    exact perm_mono v hij
  · rw [dif_neg hj]
    exact le_top

/-- The search finds the number of breakpoints below the input. -/
theorem found (x : EReal) (i : Fin 75) : v (ix1 (perm v i)) < x ↔ i.val < pos7 (tab (padded v)) x := by
  have h := lt_pos7 (padded_mono v) (x := x) (by rw [padded_high v 127 (by norm_num)]; exact not_top_lt) i.val
  rw [tab_padded, dif_pos i.isLt] at h
  exact h

/-- There are at most 75. -/
theorem found_le (x : EReal) : pos7 (tab (padded v)) x ≤ 75 := by
  have h := lt_pos7 (padded_mono v) (x := x) (by rw [padded_high v 127 (by norm_num)]; exact not_top_lt) 75
  rw [padded_high v 75 le_rfl] at h
  exact not_lt.mp (mt h.mpr not_top_lt)
end

section
variable (a b1 : Vec Idealize.ShloMosaic.Ideal S75 .f32) (W2 : Vec Idealize.ShloMosaic.Ideal S75x4 .f32)
  (b2 : Vec Idealize.ShloMosaic.Ideal S4 .f32)

/-- The table's slopes. -/
theorem coefs_slope (k : Fin 4) (r : Fin 8) (hr : r.val = k.val) (i : Fin 128) (p : Fin 76) (hp : p.val = i.val) :
    coefs a b1 W2 b2 (ix2 r i)
      = slope0 a W2 (ix1 k) + ∑ q : Fin 75, if q.val < p.val then jumps a a W2 (ix2 (perm (breaks a b1) q) k) else 0 := by
  unfold coefs
  have := k.isLt
  rw [written_miss _ _ 4 (by decide) _ r i (Or.inl (by omega)), written_hit _ _ 0 (by decide) _ k p r i (by omega) hp, lines_apply]
  simp only [sorted_apply]

/-- The table's offsets. -/
theorem coefs_offset (k : Fin 4) (r : Fin 8) (hr : r.val = k.val + 4) (i : Fin 128) (p : Fin 76) (hp : p.val = i.val) :
    coefs a b1 W2 b2 (ix2 r i)
      = offset0 a b1 W2 b2 (ix1 k) + ∑ q : Fin 75, if q.val < p.val then jumps a b1 W2 (ix2 (perm (breaks a b1) q) k) else 0 := by
  unfold coefs
  rw [written_hit _ _ 4 (by decide) _ k p r i (by omega) hp, lines_apply]
  simp only [sorted_apply]

variable (A C : Fin 75 → ℝ) (W : Fin 75 → Fin 4 → ℝ)
  (ha : ∀ j, a (ix1 j) = ((A j : ℝ) : EReal)) (hc : ∀ j, b1 (ix1 j) = ((C j : ℝ) : EReal))
  (hw : ∀ j k, W2 (ix2 j k) = ((W j k : ℝ) : EReal))

include ha hc hw in
/-- The body's output at a finite input is the sum of the ramps plus the output's bias. -/
theorem line_value (x0 : Vec Idealize.ShloMosaic.Ideal S2048x128 .f32) (r : Fin 2048) (l : Fin 128) (k : Fin 4) (x : ℝ)
    (hx : x0 (ix2 r l) = ((x : ℝ) : EReal)) :
    line x0 (padded (breaks a b1)) (coefs a b1 W2 b2) r l k
      = ((∑ j, max (x * A j + C j) 0 * W j k : ℝ) : EReal) + b2 (ix1 k) := by
  have hle := found_le (breaks a b1) (x0 (ix2 r l))
  have hf := found (breaks a b1) (x0 (ix2 r l))
  have hs : ∀ (X : Fin 75 → ℝ) (u : Vec Idealize.ShloMosaic.Ideal S75 .f32), (∀ j, u (ix1 j) = ((X j : ℝ) : EReal)) → ∀ p : ℕ,
      (∑ q : Fin 75, if q.val < p then jumps a u W2 (ix2 (perm (breaks a b1) q) k) else 0)
        = ((∑ q : Fin 75, if q.val < p then sgn (A (perm (breaks a b1) q)) * X (perm (breaks a b1) q) * W (perm (breaks a b1) q) k else 0 : ℝ) : EReal) := by
    intro X u hu p
    rw [coe_sum]
    refine Finset.sum_congr rfl fun q _ => ?_
    split
    · exact jumps_apply a u W2 A X W ha hu hw _ k
    · rfl
  unfold line
  rw [coefs_slope a b1 W2 b2 k _ rfl _ ⟨pos7 (tab (padded (breaks a b1))) (x0 (ix2 r l)), by omega⟩ rfl,
    coefs_offset a b1 W2 b2 k _ rfl _ ⟨pos7 (tab (padded (breaks a b1))) (x0 (ix2 r l)), by omega⟩ rfl,
    slope0_apply a W2 A W ha hw, offset0_apply a b1 W2 b2 A C W ha hc hw]
  simp only [hs A a ha, hs C b1 hc]
  rw [← EReal.coe_add, hx]
  rw [hx] at hf
  exact piece_bias A C (fun j => W j k) (b2 (ix1 k)) x (perm (breaks a b1)) _
    (fun i => by rw [← breaks_apply a b1 A C ha hc]; exact hf i)
end

end Cert.Pwl
-- ==== Proof.Launch.lean ====
module

public import proofs.«01_k».proof.Proof.Line
public import Idealize.ShloMosaic.Lib.Pipeline.ValueKit
public import Idealize.ShloMosaic.Lib.StableHlo.ReadAt

/-!
# The result of the kernel's program

The launch fills its output array block by block; the host then unpacks the array into rows of four. Read at an index,
the result is the picked line at one input.
-/

@[expose] public section

set_option maxRecDepth 16384

noncomputable section

namespace Cert.Pwl

open Idealize.ShloMosaic hiding ix0 ix1 ix2 ix3
open Idealize.ShloMosaic.ValueIdx Idealize.ShloMosaic.TcCoe Idealize.SL.Sem
open Cert.KernelIdeal Cert.KernelIdeal.Gen

/-- The picked line at one input: `line` with the input itself in place of the block it is read from. -/
def picked (x1 : Vec Idealize.ShloMosaic.Ideal S1x128 .f32) (x2 : Vec Idealize.ShloMosaic.Ideal S8x128 .f32) (x : EReal)
    (k : Fin 4) : EReal :=
  line (fun _ => x) x1 x2 0 0 k

theorem line_eq (x0 : Vec Idealize.ShloMosaic.Ideal S2048x128 .f32) (x1 : Vec Idealize.ShloMosaic.Ideal S1x128 .f32)
    (x2 : Vec Idealize.ShloMosaic.Ideal S8x128 .f32) (r : Fin 2048) (l : Fin 128) (k : Fin 4) :
    line x0 x1 x2 r l k = picked x1 x2 (x0 (ix2 r l)) k := by
  unfold picked line
  rfl

/-- A block of the output, at any index: row `q` holds line `q % 4` of the input row `q / 4`. -/
theorem stored_at (x0 : Vec Idealize.ShloMosaic.Ideal S2048x128 .f32) (x1 : Vec Idealize.ShloMosaic.Ideal S1x128 .f32)
    (x2 : Vec Idealize.ShloMosaic.Ideal S8x128 .f32) (q : Fin 8192) (l : Fin 128) :
    out0_3 x0 x1 x2 (ix2 q l)
      = picked x1 x2 (x0 (ix2 (⟨q.val / 4, by omega⟩ : Fin 2048) l)) (⟨q.val % 4, Nat.mod_lt _ (by norm_num)⟩ : Fin 4) := by
  have hb : 4 * (q.val / 4) + q.val % 4 < 8192 := by omega
  have hq : q = (⟨4 * (q.val / 4) + q.val % 4, hb⟩ : Fin 8192) := Fin.ext (by show q.val = 4 * (q.val / 4) + q.val % 4; omega)
  refine (congrArg (fun p : Fin 8192 => out0_3 x0 x1 x2 (ix2 p l)) hq).trans ?_
  exact (stored x0 x1 x2 (⟨q.val / 4, by omega⟩ : Fin 2048) l (⟨q.val % 4, Nat.mod_lt _ (by norm_num)⟩ : Fin 4) hb).trans
    (line_eq ..)

variable (m : (ℓ : Loc nD τ sig) → Buf (Elt Idealize.ShloMosaic.Ideal) ℓ) (c : Dev nD)

/-- The launch's first operand is the input, reshaped. -/
theorem input_read : V m c main_v95 = shapeCast S32768x128 (m (c, Proc.devRef .tc main_arg0)) shapeCasts_S4194304x1_S32768x128 := by
  unfold V V0
  after_reads_simp
  rfl

/-- What the launch leaves at an index of its output array. -/
def cell (y : S131072x128.Idx) : EReal :=
  picked (V m c main_v83) (V m c main_v94)
    (V m c main_v95 (ix2 (⟨(y 0).val / 4, by have h : (y 0).val < 131072 := (y 0).isLt; omega⟩ : Fin 32768)
      (⟨(y 1).val, (y 1).isLt⟩ : Fin 128)))
    (⟨(y 0).val % 4, Nat.mod_lt _ (by norm_num)⟩ : Fin 4)

/-- `cell` at an index given by an input row, a line and a lane. -/
theorem cell_eq (y : S131072x128.Idx) (R : Fin 32768) (l : Fin 128) (k : Fin 4) (h0 : (y 0).val = 4 * R.val + k.val)
    (h1 : (y 1).val = l.val) :
    cell m c y = picked (V m c main_v83) (V m c main_v94) (V m c main_v95 (ix2 R l)) k := by
  have e0 : (⟨(y 0).val / 4, by have h : (y 0).val < 131072 := (y 0).isLt; omega⟩ : Fin 32768) = R :=
    Fin.ext (by show (y 0).val / 4 = R.val; omega)
  have e1 : (⟨(y 1).val, (y 1).isLt⟩ : Fin 128) = l := Fin.ext h1
  have e2 : (⟨(y 0).val % 4, Nat.mod_lt _ (by norm_num)⟩ : Fin 4) = k := Fin.ext (by show (y 0).val % 4 = k.val; omega)
  unfold cell
  rw [e0, e1, e2]

/-- Where each window's block lies at each point. -/
theorem places : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The padded breakpoints are read whole at every point. -/
theorem block_breaks (t : Fin cfg0.N) : iblk m c 1 t = V m c main_v83 := by
  blk_ext! [iblk, places t]

/-- The coefficient table is read whole at every point. -/
theorem block_coefs (t : Fin cfg0.N) : iblk m c 2 t = V m c main_v94 := by
  blk_ext! [iblk, places t]

/-- The block of inputs read at a point. -/
theorem block_input (t : Fin cfg0.N) (r : Fin 2048) (l : Fin 128) (h : 2048 * t.val + r.val < 32768) :
    iblk m c 0 t (ix2 r l) = V m c main_v95 (ix2 (⟨2048 * t.val + r.val, h⟩ : Fin 32768) l) := by
  blk_ext! [iblk, places t]
  show t.val * 2048 + r.val = 2048 * t.val + r.val
  omega

/-- The array the launch leaves. -/
theorem array : (dats m 0 c).arrAt 3 cfg0.N = cell m c := by
  refine (dats m 0 c).arrAt_eq_of_covers 3 (cell m c) (by decide +kernel) fun t hf y => ?_
  blk_simp
  rw [after0_3]
  obtain ⟨q, l, rfl⟩ : ∃ (q : Fin 8192) (l : Fin 128), y = ix2 q l := ⟨y 0, y 1, by
    funext d
    match d with
    | ⟨0, _⟩ => rfl
    | ⟨1, _⟩ => rfl⟩
  rw [stored_at, block_breaks, block_coefs, block_input m c t _ l (by
    have ht : t.val < 16 := t.isLt
    show 2048 * t.val + q.val / 4 < 32768
    omega)]
  have h0 : ((win0_3.blk t).view.emb (ix2 q l) 0).val = 8192 * t.val + q.val := by
    blk_simp [places t]
    show t.val * 8192 + q.val = 8192 * t.val + q.val
    omega
  have h1 : ((win0_3.blk t).view.emb (ix2 q l) 1).val = l.val := by
    blk_simp [places t]
    rfl
  exact (cell_eq m c _ _ _ _ (by show _ = 4 * (2048 * t.val + q.val / 4) + q.val % 4; omega) h1).symm

/-- The program's result is the launch's array, unpacked. -/
theorem result_eq : Pipeline.afterTail₀ cfgs (dats m) 0 (V0 m) [hostOps1] c main_v99
    = shapeCast S4194304x4 (transpose S32768x128x4 [0, 2, 1] (shapeCast S32768x4x128 (cell m c)
        shapeCasts_S131072x128_S32768x4x128) transposes_S32768x4x128_S32768x128x4_0_2_1) shapeCasts_S32768x128x4_S4194304x4 := by
  unfold Pipeline.afterTail₀
  after_reads_simp
  have h : Pipeline.withArrays (cfgs 0).spec c (V0 m c) (fun w => (dats m 0 c).arrAt w (cfgs 0).N) (Proc.tc.devRef main_v96)
      = cell m c :=
    (Pipeline.withArrays_arr spec0 (by decide) c (V0 m c) (fun w => (dats m 0 c).arrAt w cfg0.N) 3).trans (array m c)
  rw [h]
  rfl

/-- The unpacking of an array of lines, at an index. -/
theorem unpack_apply (z : Vec Idealize.ShloMosaic.Ideal S131072x128 .f32) (n : Fin 4194304) (k : Fin 4) :
    shapeCast S4194304x4 (transpose S32768x128x4 [0, 2, 1] (shapeCast S32768x4x128 z
        shapeCasts_S131072x128_S32768x4x128) transposes_S32768x4x128_S32768x128x4_0_2_1) shapeCasts_S32768x128x4_S4194304x4
      (ix2 n k)
      = z (ix2 (⟨4 * (n.val / 128) + k.val, by omega⟩ : Fin 131072) (⟨n.val % 128, Nat.mod_lt _ (by norm_num)⟩ : Fin 128)) := by
  pointwise
  refine congrArg z (funext fun d => Fin.ext ?_)
  match d with
  | ⟨0, _⟩ =>
    show n.val / 128 * 4 + k.val = 4 * (n.val / 128) + k.val
    omega
  | ⟨1, _⟩ => rfl

/-- The launch's first operand, at an index. -/
theorem input_at (n : Fin 4194304) :
    V m c main_v95 (ix2 (⟨n.val / 128, by omega⟩ : Fin 32768) (⟨n.val % 128, Nat.mod_lt _ (by norm_num)⟩ : Fin 128))
      = m (c, Proc.devRef .tc main_arg0) (ix2 n (0 : Fin 1)) := by
  rw [input_read]
  pointwise
  refine congrArg (m (c, Proc.devRef .tc main_arg0)) (funext fun d => Fin.ext ?_)
  match d with
  | ⟨0, _⟩ =>
    show n.val / 128 * 128 + n.val % 128 = n.val
    omega
  | ⟨1, _⟩ => rfl

/-- The program's result, at an index. -/
theorem result_apply (n : Fin 4194304) (k : Fin 4) :
    Pipeline.afterTail₀ cfgs (dats m) 0 (V0 m) [hostOps1] c main_v99 (ix2 n k)
      = picked (V m c main_v83) (V m c main_v94) (m (c, Proc.devRef .tc main_arg0) (ix2 n (0 : Fin 1))) k := by
  rw [result_eq, unpack_apply, ← input_at m c n]
  exact cell_eq m c _ _ _ _ rfl rfl

/-- At finite inputs and weights, an element of the result is the sum of the ramps plus the offset. -/
theorem result_value (x : Fin 4194304 → ℝ) (A C : Fin 75 → ℝ) (W : Fin 75 → Fin 4 → ℝ)
    (hx : ∀ n, m (c, Proc.devRef .tc main_arg0) (ix2 n (0 : Fin 1)) = ((x n : ℝ) : EReal))
    (ha : ∀ j, m (c, Proc.devRef .tc main_arg2) (ix2 (0 : Fin 1) j) = ((A j : ℝ) : EReal))
    (hc : ∀ j, m (c, Proc.devRef .tc main_arg3) (ix1 j) = ((C j : ℝ) : EReal))
    (hw : ∀ j k, m (c, Proc.devRef .tc main_arg4) (ix2 j k) = ((W j k : ℝ) : EReal)) (n : Fin 4194304) (k : Fin 4) :
    Pipeline.afterTail₀ cfgs (dats m) 0 (V0 m) [hostOps1] c main_v99 (ix2 n k)
      = ((∑ j, max (x n * A j + C j) 0 * W j k : ℝ) : EReal) + m (c, Proc.devRef .tc main_arg5) (ix1 k) := by
  rw [result_apply, padded_read, coefs_read]
  refine line_value _ _ _ _ A C W (fun j => ?_) hc hw _ 0 0 k (x n) (hx n)
  refine Eq.trans ?_ (ha j)
  unfold slopes
  pointwise
  rfl

end Cert.Pwl
-- ==== Proof.Plain.lean ====
module

public import proofs.«01_k».proof.Proof.Units
public import proofs.«01_k».proof.Proof.Gen.ReferenceIdeal
public import proofs.«01_k».proof.Proof.Gen.ReferenceIdeal.Read
public import proofs.«01_k».proof.Pre_finite_inputs
public import Mathlib.Algebra.BigOperators.Fin

/-!
# The reference, and what the precondition says

The reference at an index, on finite inputs and weights, is the sum of the ramps plus the offset. The precondition says
that the inputs, slopes, offsets and output weights are finite.
-/

@[expose] public section

set_option maxRecDepth 16384

noncomputable section

namespace Cert.Pwl

open Idealize.ShloMosaic hiding ix0 ix1 ix2 ix3
open Idealize.ShloMosaic.ValueIdx
open Cert.ReferenceIdeal Cert.ReferenceIdeal.Gen Cert.ReferenceIdeal.Read
open scoped BigOperators

variable (rx : Vec Idealize.ShloMosaic.Ideal S4194304x1 .f32) (W1 : Vec Idealize.ShloMosaic.Ideal S1x75 .f32)
  (b1 : Vec Idealize.ShloMosaic.Ideal S75 .f32) (W2 : Vec Idealize.ShloMosaic.Ideal S75x4 .f32)
  (b2 : Vec Idealize.ShloMosaic.Ideal S4 .f32)

/-- One hidden unit of the reference. -/
theorem unit_apply (n : Fin 4194304) (j : Fin 75) :
    val_main_v4 (F := Idealize.ShloMosaic.Ideal) rx W1 b1 (ix2 n j)
      = max (rx (ix2 n (0 : Fin 1)) * W1 (ix2 (0 : Fin 1) j) + b1 (ix1 j)) 0 := by
  rw [val_main_v4_apply, val_main_v3_apply, val_main_v0_apply, val_main_v2_apply, val_main_v1_apply,
    val_main_call0_v0_apply, val_main_call0_cst_apply, Fin.sum_univ_one]
  have hz : (FloatOps.ofBits .f32 0x00000000#32 : Idealize.ShloMosaic.Ideal .f32) = (0 : EReal) := lit_zero
  have e0 : lidx_main_v0 (ix2 n j) 0 = ix2 n (0 : Fin 1) := by
    funext d
    match d with
    | ⟨0, _⟩ => rfl
    | ⟨1, _⟩ => rfl
  have e1 : ridx_main_v0 (ix2 n j) 0 = ix2 (0 : Fin 1) j := by
    funext d
    match d with
    | ⟨0, _⟩ => rfl
    | ⟨1, _⟩ => rfl
  have e2 : idx_main_v1 (idx_main_v2 (ix2 n j)) = ix1 j := by
    funext d
    match d with
    | ⟨0, _⟩ => rfl
  rw [e0, e1, e2, hz]
  rfl

/-- The reference at an index. -/
theorem reference_value (x : Fin 4194304 → ℝ) (A C : Fin 75 → ℝ) (W : Fin 75 → Fin 4 → ℝ)
    (hx : ∀ n, rx (ix2 n (0 : Fin 1)) = ((x n : ℝ) : EReal)) (ha : ∀ j, W1 (ix2 (0 : Fin 1) j) = ((A j : ℝ) : EReal))
    (hc : ∀ j, b1 (ix1 j) = ((C j : ℝ) : EReal)) (hw : ∀ j k, W2 (ix2 j k) = ((W j k : ℝ) : EReal))
    (n : Fin 4194304) (k : Fin 4) :
    val_main_v8 (F := Idealize.ShloMosaic.Ideal) rx W1 b1 W2 b2 (ix2 n k)
      = ((∑ j, max (x n * A j + C j) 0 * W j k : ℝ) : EReal) + b2 (ix1 k) := by
  rw [val_main_v8_apply, val_main_v5_apply, val_main_v7_apply, val_main_v6_apply]
  have hs : ∑ j : Fin 75, val_main_v4 (F := Idealize.ShloMosaic.Ideal) rx W1 b1 (lidx_main_v5 (ix2 n k) j)
        * W2 (ridx_main_v5 (ix2 n k) j) = ((∑ j, max (x n * A j + C j) 0 * W j k : ℝ) : EReal) := by
    rw [coe_sum]
    refine Finset.sum_congr rfl fun j _ => ?_
    have e0 : lidx_main_v5 (ix2 n k) j = ix2 n j := by
      funext d
      match d with
      | ⟨0, _⟩ => rfl
      | ⟨1, _⟩ => rfl
    have e1 : ridx_main_v5 (ix2 n k) j = ix2 j k := by
      funext d
      match d with
      | ⟨0, _⟩ => rfl
      | ⟨1, _⟩ => rfl
    rw [e0, e1, unit_apply, hx, ha, hc, hw, ← EReal.coe_mul, ← EReal.coe_add, ← EReal.coe_zero,
      ← EReal.coe_strictMono.monotone.map_max, ← EReal.coe_mul]
  have e2 : idx_main_v6 (idx_main_v7 (ix2 n k)) = ix1 k := by
    funext d
    match d with
    | ⟨0, _⟩ => rfl
  rw [hs, e2]
  rfl

/-! ## The precondition -/

/-- The shape relations the precondition's operations take. -/
theorem pre_facts : Cert.Pre_finite_inputs.Facts where
  bcast_S_S4194304x1 := by decide
  bcast_S_S1x75 := by decide
  bcast_S_S75 := by decide
  bcast_S_S75x4 := by decide

/-- A question answered by one holds. -/
theorem of_bit (p : Prop) [Decidable p] (h : bit p = 1#1) : p := by
  by_contra hn
  unfold bit at h
  rw [decide_eq_false hn] at h
  exact absurd h (by decide)

/-- An extended real whose absolute value compares below the infinite constant is a real. -/
theorem real_of_bit (x : EReal)
    (h : FloatOps.cmpf (F := Idealize.ShloMosaic.Ideal) (φ := .f32) .olt (FloatOps.hostAbsf (F := Idealize.ShloMosaic.Ideal) (φ := .f32) x)
      (FloatOps.ofBits (F := Idealize.ShloMosaic.Ideal) .f32 0x7F800000#32) = 1#1) : ∃ r : ℝ, x = (r : EReal) := by
  rw [cmp_lt] at h
  have hb : max x (-x) < (⊤ : EReal) := by
    have h' : max x (-x) < Idealize.ShloMosaic.Ideal.ofBits .f32 0x7F800000#32 := by
      exact of_bit _ h
    rwa [lit_inf] at h'
  have h1 : x ≠ ⊤ := fun e => absurd (lt_of_le_of_lt (le_max_left x (-x)) hb) (by rw [e]; exact lt_irrefl _)
  have h2 : x ≠ ⊥ := fun e => absurd (lt_of_le_of_lt (le_max_right x (-x)) hb) (by rw [e]; exact lt_irrefl _)
  exact ⟨x.toReal, (EReal.coe_toReal h1 h2).symm⟩

section
variable [Cert.Pre_finite_inputs.Facts] (s : IVec S_ 32)

/-- The precondition makes the inputs real. -/
theorem inputs_real (h : (Cert.Pre_finite_inputs.fn (F := Idealize.ShloMosaic.Ideal) rx s W1 b1 W2 b2).1 = fun _ => 1#1) :
    ∃ x : Fin 4194304 → ℝ, ∀ n, rx (ix2 n (0 : Fin 1)) = ((x n : ℝ) : EReal) := by
  have hr := fun n => real_of_bit _ (congrFun h (ix2 n (0 : Fin 1)))
  choose v hv using hr
  exact ⟨v, hv⟩

/-- The precondition makes the slopes real. -/
theorem slopes_real (h : (Cert.Pre_finite_inputs.fn (F := Idealize.ShloMosaic.Ideal) rx s W1 b1 W2 b2).2.1 = fun _ => 1#1) :
    ∃ A : Fin 75 → ℝ, ∀ j, W1 (ix2 (0 : Fin 1) j) = ((A j : ℝ) : EReal) := by
  have hr := fun j => real_of_bit _ (congrFun h (ix2 (0 : Fin 1) j))
  choose v hv using hr
  exact ⟨v, hv⟩

/-- The precondition makes the offsets real. -/
theorem offsets_real (h : (Cert.Pre_finite_inputs.fn (F := Idealize.ShloMosaic.Ideal) rx s W1 b1 W2 b2).2.2.1 = fun _ => 1#1) :
    ∃ C : Fin 75 → ℝ, ∀ j, b1 (ix1 j) = ((C j : ℝ) : EReal) := by
  have hr := fun j => real_of_bit _ (congrFun h (ix1 j))
  choose v hv using hr
  exact ⟨v, hv⟩

/-- The precondition makes the output weights real. -/
theorem weights_real (h : (Cert.Pre_finite_inputs.fn (F := Idealize.ShloMosaic.Ideal) rx s W1 b1 W2 b2).2.2.2 = fun _ => 1#1) :
    ∃ W : Fin 75 → Fin 4 → ℝ, ∀ j k, W2 (ix2 j k) = ((W j k : ℝ) : EReal) := by
  have hr : ∀ j k, ∃ r : ℝ, W2 (ix2 j k) = (r : EReal) := fun j k => real_of_bit _ (congrFun h (ix2 j k))
  choose W hW using hr
  exact ⟨W, hW⟩

end

end Cert.Pwl
-- ==== Proof.lean ====
/-
  The claim: the kernel's program and its ideal reading run, stop and leave their arguments unchanged; so does the
  reference; the ideal reading is the program's own text; and, for finite inputs and weights, the kernel's result equals
  the reference's, element by element.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Plain
public import Idealize.ShloMosaic.Adequacy
public import Idealize.ShloMosaic.Init

@[expose] public section

set_option maxRecDepth 16384

noncomputable section

namespace Cert.Proof

open Idealize.ShloMosaic hiding ix0 ix1 ix2 ix3
open Idealize.ShloMosaic.ValueIdx Idealize.ShloMosaic.TcCoe Idealize.SL.Sem

/-- The reference runs, leaves its arguments unchanged and, having no semaphore, leaves every counter at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The kernel's program ends with its result at the value the host operations after the launch compute, and with
    unchanged arguments. -/
theorem kernel_run (m : (ℓ : Loc Cert.KernelIdeal.nD Cert.KernelIdeal.τ Cert.KernelIdeal.sig) → Buf (Elt Idealize.ShloMosaic.Ideal) ℓ)
    (g : Dev Cert.KernelIdeal.nD → PrngReg) :
    θ_run (Cert.KernelIdeal.defs (F := Idealize.ShloMosaic.Ideal))
      (onTc (τ := Cert.KernelIdeal.τ) (Cert.KernelIdeal.main (F := Idealize.ShloMosaic.Ideal))) ⟨m, fun _ => 0, g⟩
      fun r => ∀ c : Dev Cert.KernelIdeal.nD,
        r.2.mem ((c.tc : Thread Cert.KernelIdeal.nD Cert.KernelIdeal.τ).loc Cert.KernelIdeal.main_v99)
          = Pipeline.afterTail₀ Cert.KernelIdeal.cfgs (Cert.KernelIdeal.Gen.dats m) 0 (Cert.KernelIdeal.Gen.V0 m)
              [Cert.KernelIdeal.Gen.hostOps1] c Cert.KernelIdeal.main_v99 :=
  (θ_run _ _ _).mono (fun _ h c => (h c).2 Cert.KernelIdeal.main_v99
    (Pipeline.mem_restRefs_of Cert.KernelIdeal.main_v99 (by decide) (by decide))) (Cert.KernelIdeal.Gen.run_main m g)

/-- The kernel's value is the reference's, from memories that agree on the arguments and satisfy the precondition. -/
theorem values_agree (m : (ℓ : Loc Cert.KernelIdeal.nD Cert.KernelIdeal.τ Cert.KernelIdeal.sig) → Buf (Elt Idealize.ShloMosaic.Ideal) ℓ)
    (hp : Cert.Pre_KernelIdeal_finite_inputs (hPre_finite_inputs := Cert.Pwl.pre_facts) m) (c : Dev Cert.KernelIdeal.nD) :
    Pipeline.afterTail₀ Cert.KernelIdeal.cfgs (Cert.KernelIdeal.Gen.dats m) 0 (Cert.KernelIdeal.Gen.V0 m)
        [Cert.KernelIdeal.Gen.hostOps1] c Cert.KernelIdeal.main_v99
      = Cert.ReferenceIdeal.Read.val_main_v8 (F := Idealize.ShloMosaic.Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  haveI := Cert.Pwl.pre_facts
  obtain ⟨h0, h1, h2, h3⟩ := hp c
  obtain ⟨x, hx⟩ := Cert.Pwl.inputs_real _ _ _ _ _ _ h0
  obtain ⟨A, hA⟩ := Cert.Pwl.slopes_real _ _ _ _ _ _ h1
  obtain ⟨C, hC⟩ := Cert.Pwl.offsets_real _ _ _ _ _ _ h2
  obtain ⟨W, hW⟩ := Cert.Pwl.weights_real _ _ _ _ _ _ h3
  funext i
  obtain ⟨n, k, rfl⟩ : ∃ (n : Fin 4194304) (k : Fin 4), i = ix2 n k := ⟨i 0, i 1, by
    funext d
    match d with
    | ⟨0, _⟩ => rfl
    | ⟨1, _⟩ => rfl⟩
  exact (Cert.Pwl.result_value m c x A C W hx hA hC hW n k).trans
    (Cert.Pwl.reference_value _ _ _ _ _ x A C W hx hA hC hW n k).symm

/-- The two programs, from memories that agree on the arguments, end with equal results. -/
theorem equal_results : Cert.algebraic_KernelIdeal_ReferenceIdeal_pre_finite_inputs (hKernelIdeal := Cert.KernelIdeal.Gen.facts)
    (hReferenceIdeal := Cert.ReferenceIdeal.Gen.facts) (hPre_finite_inputs := Cert.Pwl.pre_facts) := by
  intro m g m' g' hp hargs
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v99, ?_, ?_⟩
  · exact (θ_run _ _ _).mono (fun _ h c => ⟨h.1 c, h.2 c⟩) (θ_run_and (kernel_run m g) (Cert.KernelIdeal.Gen.unchanged m g))
  · refine (θ_run _ _ _).mono (fun _ h c => ⟨?_, (h c).2⟩) (Cert.ReferenceIdeal.Value.run m' g')
    obtain ⟨e0, _, e2, e3, e4, e5⟩ := hargs c
    refine (h c).1.trans ?_
    rw [e0, e2, e3, e4, e5]
    exact (Cert.ReferenceIdeal.Read.val_main_v8_eq ..).trans (values_agree m hp c).symm

/-- The whole claim. -/
theorem claim : Cert.Claim :=
  ⟨Cert.Kernel.Gen.facts, Cert.KernelIdeal.Gen.facts, Cert.ReferenceIdeal.Gen.facts, Cert.Pwl.pre_facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    equal_results⟩

end Cert.Proof

end
